-- ==== Defs.lean ====
def Pre_Kernel [hPre_golds_in_range : Cert.Pre_golds_in_range.Facts] (m : (ℓ : Loc Cert.Kernel.nD Cert.Kernel.τ Cert.Kernel.sig) → Buf (Elt Bits) ℓ) : Prop :=
  ∀ c : Dev Cert.Kernel.nD,
    (Cert.Pre_golds_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_golds_in_range : Cert.Pre_golds_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_golds_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_golds_and_grids [hPre_golds_and_grids : Cert.Pre_golds_and_grids.Facts] (m : (ℓ : Loc Cert.KernelIdeal.nD Cert.KernelIdeal.τ Cert.KernelIdeal.sig) → Buf (Elt Ideal) ℓ) : Prop :=
  ∀ c : Dev Cert.KernelIdeal.nD,
    (Cert.Pre_golds_and_grids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_golds_and_grids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_golds_and_grids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_golds_and_grids [hPre_golds_and_grids : Cert.Pre_golds_and_grids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_golds_and_grids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_golds_and_grids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_golds_and_grids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] [hPre_golds_in_range : Cert.Pre_golds_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_golds_in_range : Cert.Pre_golds_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_golds_and_grids [hKernelIdeal : Cert.KernelIdeal.Facts] [hPre_golds_and_grids : Cert.Pre_golds_and_grids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_golds_and_grids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_golds_and_grids [hReferenceIdeal : Cert.ReferenceIdeal.Facts] [hPre_golds_and_grids : Cert.Pre_golds_and_grids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_golds_and_grids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_golds_and_grids [hKernelIdeal : Cert.KernelIdeal.Facts] [hReferenceIdeal : Cert.ReferenceIdeal.Facts] [hPre_golds_and_grids : Cert.Pre_golds_and_grids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_golds_and_grids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v1_8)) (v5 : (c : Dev Cert.KernelIdeal.nD) → Buf (Elt Ideal) ((c.tc : Thread Cert.KernelIdeal.nD Cert.KernelIdeal.τ).loc Cert.KernelIdeal.main_v1_9)) (v6 : (c : Dev Cert.KernelIdeal.nD) → Buf (Elt Ideal) ((c.tc : Thread Cert.KernelIdeal.nD Cert.KernelIdeal.τ).loc Cert.KernelIdeal.main_v9)) (v7 : (c : Dev Cert.KernelIdeal.nD) → Buf (Elt Ideal) ((c.tc : Thread Cert.KernelIdeal.nD Cert.KernelIdeal.τ).loc Cert.KernelIdeal.main_v10)) (v8 : (c : Dev Cert.KernelIdeal.nD) → Buf (Elt Ideal) ((c.tc : Thread Cert.KernelIdeal.nD Cert.KernelIdeal.τ).loc Cert.KernelIdeal.main_v11)) (v9 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v1_8) = v4 c
          ∧ r.2.mem ((c.tc : Thread Cert.KernelIdeal.nD Cert.KernelIdeal.τ).loc Cert.KernelIdeal.main_v1_9) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_v10) = v7 c
          ∧ r.2.mem ((c.tc : Thread Cert.KernelIdeal.nD Cert.KernelIdeal.τ).loc Cert.KernelIdeal.main_v11) = v8 c
          ∧ r.2.mem ((c.tc : Thread Cert.KernelIdeal.nD Cert.KernelIdeal.τ).loc Cert.KernelIdeal.main_v12) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_v34) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_v23) = v7 c
          ∧ r.2.mem ((c.tc : Thread Cert.ReferenceIdeal.nD Cert.ReferenceIdeal.τ).loc Cert.ReferenceIdeal.main_v20) = v8 c
          ∧ r.2.mem ((c.tc : Thread Cert.ReferenceIdeal.nD Cert.ReferenceIdeal.τ).loc Cert.ReferenceIdeal.main_v17) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_golds_in_range : Cert.Pre_golds_in_range.Facts) (hPre_golds_and_grids : Cert.Pre_golds_and_grids.Facts),
    quiescent_Kernel (hKernel := hKernel) (hPre_golds_in_range := hPre_golds_in_range)
    ∧ quiescent_KernelIdeal (hKernelIdeal := hKernelIdeal) (hPre_golds_in_range := hPre_golds_in_range)
    ∧ quiescent_KernelIdeal_pre_golds_and_grids (hKernelIdeal := hKernelIdeal) (hPre_golds_and_grids := hPre_golds_and_grids)
    ∧ quiescent_ReferenceIdeal (hReferenceIdeal := hReferenceIdeal)
    ∧ quiescent_ReferenceIdeal_pre_golds_and_grids (hReferenceIdeal := hReferenceIdeal) (hPre_golds_and_grids := hPre_golds_and_grids)
    ∧ preserves_Kernel_KernelIdeal
    ∧ algebraic_KernelIdeal_ReferenceIdeal_pre_golds_and_grids (hKernelIdeal := hKernelIdeal) (hReferenceIdeal := hReferenceIdeal) (hPre_golds_and_grids := hPre_golds_and_grids)
-- ==== Pre_golds_and_grids.lean ====
abbrev S8x2048x16x128 : Shape := ⟨4, ![8, 2048, 16, 128]⟩
abbrev S8x2048x16 : Shape := ⟨3, ![8, 2048, 16]⟩
abbrev S8x2048x16x1 : Shape := ⟨4, ![8, 2048, 16, 1]⟩
abbrev S8x512x2 : Shape := ⟨3, ![8, 512, 2]⟩
abbrev S8 : Shape := ⟨1, ![8]⟩
abbrev S8x512x1 : Shape := ⟨3, ![8, 512, 1]⟩
abbrev S8x512 : Shape := ⟨2, ![8, 512]⟩
abbrev S_ : Shape := ⟨0, ![]⟩

class Facts : Prop where
  slices_S8x512x2_S8x512x1_0_0_0 : S8x512x2.Slices ![0, 0, 0] S8x512x1
  shapeCasts_S8x512x1_S8x512 : S8x512x1.ShapeCasts S8x512
  slices_S8x512x2_S8x512x1_0_0_1 : S8x512x2.Slices ![0, 0, 1] S8x512x1
  bcast_S_S8x512 : S_.BroadcastsInDim S8x512 (![] : Fin 0 → Fin S8x512.rank)

variable [Facts]

def fn_part1 {F : FTy → Type} [FloatOps F] (main_arg3 : FVec F S8x2048x16x1 .f32) (main_v16 : IVec S8x512 1) (main_v18 : IVec S8x2048x16x1 1) (main_v20 : FVec F S8x2048x16x1 .f32) : IVec S8x512 1 × IVec S8x2048x16x1 1 × IVec S8x2048x16x1 1 :=
  let main_v21 : IVec S8x2048x16x1 1 := cmpf .oeq main_arg3 main_v20
  (main_v16, main_v18, main_v21)

def fn {F : FTy → Type} [FloatOps F] (main_arg0 : FVec F S8x2048x16x128 .f32) (main_arg1 : FVec F S8x2048x16 .f32) (main_arg2 : FVec F S8x2048x16x1 .f32) (main_arg3 : FVec F S8x2048x16x1 .f32) (main_arg4 : IVec S8x512x2 32) (main_arg5 : IVec S8 32) (main_arg6 : IVec S8 32) : IVec S8x512 1 × IVec S8x2048x16x1 1 × IVec S8x2048x16x1 1 :=
  let main_v0 : IVec S8x512x1 32 := (extractStridedSlice S8x512x1 ![0, 0, 0] · slices_S8x512x2_S8x512x1_0_0_0) main_arg4
  let main_v1 : IVec S8x512 32 := shapeCast S8x512 main_v0 shapeCasts_S8x512x1_S8x512
  let main_v2 : IVec S8x512x1 32 := (extractStridedSlice S8x512x1 ![0, 0, 1] · slices_S8x512x2_S8x512x1_0_0_1) main_arg4
  let main_v3 : IVec S8x512 32 := shapeCast S8x512 main_v2 shapeCasts_S8x512x1_S8x512
  let main_v4 : IVec S8x2048x16x1 32 := iotaInDim S8x2048x16x1 32 1
  let main_v5 : IVec S8x2048x16x1 32 := iotaInDim S8x2048x16x1 32 2
  let main_c : IVec S_ 32 := constantI S_ 32 0#32
  let main_v6 : IVec S8x512 32 := broadcastInDim S8x512 ![] bcast_S_S8x512 main_c
  let main_v7 : IVec S8x512 1 := cmpi .sge main_v1 main_v6
  let main_c_0 : IVec S_ 32 := constantI S_ 32 2032#32
  let main_v8 : IVec S8x512 32 := broadcastInDim S8x512 ![] bcast_S_S8x512 main_c_0
  let main_v9 : IVec S8x512 1 := cmpi .slt main_v1 main_v8
  let main_v10 : IVec S8x512 1 := andi main_v7 main_v9
  let main_v11 : IVec S8x512 1 := cmpi .sge main_v3 main_v1
  let main_v12 : IVec S8x512 1 := andi main_v10 main_v11
  let main_c_1 : IVec S_ 32 := constantI S_ 32 16#32
  let main_v13 : IVec S8x512 32 := broadcastInDim S8x512 ![] bcast_S_S8x512 main_c_1
  let main_v14 : IVec S8x512 32 := addi main_v1 main_v13
  let main_v15 : IVec S8x512 1 := cmpi .slt main_v3 main_v14
  let main_v16 : IVec S8x512 1 := andi main_v12 main_v15
  let main_v17 : FVec F S8x2048x16x1 .f32 := sitofp .f32 main_v4
  let main_v18 : IVec S8x2048x16x1 1 := cmpf .oeq main_arg2 main_v17
  let main_v19 : IVec S8x2048x16x1 32 := addi main_v4 main_v5
  let main_v20 : FVec F S8x2048x16x1 .f32 := sitofp .f32 main_v19
  fn_part1 (F := F) main_arg3 main_v16 main_v18 main_v20
-- ==== Pre_golds_in_range.lean ====
abbrev S8x2048x16x128 : Shape := ⟨4, ![8, 2048, 16, 128]⟩
abbrev S8x2048x16 : Shape := ⟨3, ![8, 2048, 16]⟩
abbrev S8x2048x16x1 : Shape := ⟨4, ![8, 2048, 16, 1]⟩
abbrev S8x512x2 : Shape := ⟨3, ![8, 512, 2]⟩
abbrev S8 : Shape := ⟨1, ![8]⟩
abbrev S8x512x1 : Shape := ⟨3, ![8, 512, 1]⟩
abbrev S8x512 : Shape := ⟨2, ![8, 512]⟩
abbrev S_ : Shape := ⟨0, ![]⟩

class Facts : Prop where
  slices_S8x512x2_S8x512x1_0_0_0 : S8x512x2.Slices ![0, 0, 0] S8x512x1
  shapeCasts_S8x512x1_S8x512 : S8x512x1.ShapeCasts S8x512
  slices_S8x512x2_S8x512x1_0_0_1 : S8x512x2.Slices ![0, 0, 1] S8x512x1
  bcast_S_S8x512 : S_.BroadcastsInDim S8x512 (![] : Fin 0 → Fin S8x512.rank)

variable [Facts]

def fn {F : FTy → Type} [FloatOps F] (main_arg0 : FVec F S8x2048x16x128 .f32) (main_arg1 : FVec F S8x2048x16 .f32) (main_arg2 : FVec F S8x2048x16x1 .f32) (main_arg3 : FVec F S8x2048x16x1 .f32) (main_arg4 : IVec S8x512x2 32) (main_arg5 : IVec S8 32) (main_arg6 : IVec S8 32) : IVec S8x512 1 :=
  let main_v0 : IVec S8x512x1 32 := (extractStridedSlice S8x512x1 ![0, 0, 0] · slices_S8x512x2_S8x512x1_0_0_0) main_arg4
  let main_v1 : IVec S8x512 32 := shapeCast S8x512 main_v0 shapeCasts_S8x512x1_S8x512
  let main_v2 : IVec S8x512x1 32 := (extractStridedSlice S8x512x1 ![0, 0, 1] · slices_S8x512x2_S8x512x1_0_0_1) main_arg4
  let main_v3 : IVec S8x512 32 := shapeCast S8x512 main_v2 shapeCasts_S8x512x1_S8x512
  let main_c : IVec S_ 32 := constantI S_ 32 0#32
  let main_v4 : IVec S8x512 32 := broadcastInDim S8x512 ![] bcast_S_S8x512 main_c
  let main_v5 : IVec S8x512 1 := cmpi .sge main_v1 main_v4
  let main_c_0 : IVec S_ 32 := constantI S_ 32 2032#32
  let main_v6 : IVec S8x512 32 := broadcastInDim S8x512 ![] bcast_S_S8x512 main_c_0
  let main_v7 : IVec S8x512 1 := cmpi .slt main_v1 main_v6
  let main_v8 : IVec S8x512 1 := andi main_v5 main_v7
  let main_v9 : IVec S8x512 1 := cmpi .sge main_v3 main_v1
  let main_v10 : IVec S8x512 1 := andi main_v8 main_v9
  let main_c_1 : IVec S_ 32 := constantI S_ 32 16#32
  let main_v11 : IVec S8x512 32 := broadcastInDim S8x512 ![] bcast_S_S8x512 main_c_1
  let main_v12 : IVec S8x512 32 := addi main_v1 main_v11
  let main_v13 : IVec S8x512 1 := cmpi .slt main_v3 main_v12
  let main_v14 : IVec S8x512 1 := andi main_v10 main_v13
  main_v14
-- ==== Kernel.lean ====
abbrev S8x2048x16x128 : Shape := ⟨4, ![8, 2048, 16, 128]⟩
abbrev S8x2048x16 : Shape := ⟨3, ![8, 2048, 16]⟩
abbrev S8x2048x16x1 : Shape := ⟨4, ![8, 2048, 16, 1]⟩
abbrev S8x512x2 : Shape := ⟨3, ![8, 512, 2]⟩
abbrev S8 : Shape := ⟨1, ![8]⟩
abbrev S8x2x512 : Shape := ⟨3, ![8, 2, 512]⟩
abbrev S8x1x512 : Shape := ⟨3, ![8, 1, 512]⟩
abbrev S8x512x512 : Shape := ⟨3, ![8, 512, 512]⟩
abbrev S1x512x2 : Shape := ⟨3, ![1, 512, 2]⟩
abbrev S1x2x512 : Shape := ⟨3, ![1, 2, 512]⟩
abbrev S1x1x512 : Shape := ⟨3, ![1, 1, 512]⟩
abbrev S1x512x512 : Shape := ⟨3, ![1, 512, 512]⟩
abbrev S1 : Shape := ⟨1, ![1]⟩
abbrev S1x512x1 : Shape := ⟨3, ![1, 512, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S262144x128 : Shape := ⟨2, ![262144, 128]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S8x512x128 : Shape := ⟨3, ![8, 512, 128]⟩
abbrev S8x512x1 : Shape := ⟨3, ![8, 512, 1]⟩
abbrev S8x512 : Shape := ⟨2, ![8, 512]⟩

abbrev nBuf : Table → Nat
  | .hbm => 29
  | .local .tc .vmem => 24
  | .local .tc .smem => 1
  | .local .scVector .vmem => 2
  | _ => 0

abbrev bufTy : (tb : Table) → Fin (nBuf tb) → BufTy
  | .hbm, ⟨0, _⟩ => ⟨S8x2048x16x128, .f32⟩
  | .hbm, ⟨1, _⟩ => ⟨S8x2048x16, .f32⟩
  | .hbm, ⟨2, _⟩ => ⟨S8x2048x16x1, .f32⟩
  | .hbm, ⟨3, _⟩ => ⟨S8x2048x16x1, .f32⟩
  | .hbm, ⟨4, _⟩ => ⟨S8x512x2, .i32⟩
  | .hbm, ⟨5, _⟩ => ⟨S8, .i32⟩
  | .hbm, ⟨6, _⟩ => ⟨S8, .i32⟩
  | .hbm, ⟨7, _⟩ => ⟨S8x2x512, .i32⟩
  | .hbm, ⟨8, _⟩ => ⟨S8x1x512, .i32⟩
  | .hbm, ⟨9, _⟩ => ⟨S8x1x512, .i32⟩
  | .hbm, ⟨10, _⟩ => ⟨S8x1x512, .i32⟩
  | .hbm, ⟨11, _⟩ => ⟨S8x1x512, .i32⟩
  | .hbm, ⟨12, _⟩ => ⟨S8x1x512, .f32⟩
  | .hbm, ⟨13, _⟩ => ⟨S8x1x512, .f32⟩
  | .hbm, ⟨14, _⟩ => ⟨S8x1x512, .f32⟩
  | .hbm, ⟨15, _⟩ => ⟨S8x1x512, .i32⟩
  | .hbm, ⟨16, _⟩ => ⟨S8x512x512, .f32⟩
  | .hbm, ⟨17, _⟩ => ⟨S8x512x512, .f32⟩
  | .hbm, ⟨18, _⟩ => ⟨S262144x128, .f32⟩
  | .hbm, ⟨19, _⟩ => ⟨S4096, .i32⟩
  | .hbm, ⟨20, _⟩ => ⟨S4096x128, .f32⟩
  | .hbm, ⟨21, _⟩ => ⟨S8x512x128, .f32⟩
  | .hbm, ⟨22, _⟩ => ⟨S8x512x1, .f32⟩
  | .hbm, ⟨23, _⟩ => ⟨S8x512x1, .f32⟩
  | .hbm, ⟨24, _⟩ => ⟨S8x512x1, .f32⟩
  | .hbm, ⟨25, _⟩ => ⟨S8x512, .i32⟩
  | .hbm, ⟨26, _⟩ => ⟨S8x512, .i32⟩
  | .hbm, ⟨27, _⟩ => ⟨S8x512, .i32⟩
  | .hbm, ⟨28, _⟩ => ⟨S8x512, .i32⟩
  | .local .tc .vmem, ⟨0, _⟩ => ⟨S1x512x2, .i32⟩
  | .local .tc .vmem, ⟨1, _⟩ => ⟨S1x512x2, .i32⟩
  | .local .tc .vmem, ⟨2, _⟩ => ⟨S1x2x512, .i32⟩
  | .local .tc .vmem, ⟨3, _⟩ => ⟨S1x2x512, .i32⟩
  | .local .tc .vmem, ⟨4, _⟩ => ⟨S1x1x512, .i32⟩
  | .local .tc .vmem, ⟨5, _⟩ => ⟨S1x1x512, .i32⟩
  | .local .tc .vmem, ⟨6, _⟩ => ⟨S1x1x512, .i32⟩
  | .local .tc .vmem, ⟨7, _⟩ => ⟨S1x1x512, .i32⟩
  | .local .tc .vmem, ⟨8, _⟩ => ⟨S1x1x512, .i32⟩
  | .local .tc .vmem, ⟨9, _⟩ => ⟨S1x1x512, .i32⟩
  | .local .tc .vmem, ⟨10, _⟩ => ⟨S1x1x512, .i32⟩
  | .local .tc .vmem, ⟨11, _⟩ => ⟨S1x1x512, .i32⟩
  | .local .tc .vmem, ⟨12, _⟩ => ⟨S1x1x512, .f32⟩
  | .local .tc .vmem, ⟨13, _⟩ => ⟨S1x1x512, .f32⟩
  | .local .tc .vmem, ⟨14, _⟩ => ⟨S1x1x512, .f32⟩
  | .local .tc .vmem, ⟨15, _⟩ => ⟨S1x1x512, .f32⟩
  | .local .tc .vmem, ⟨16, _⟩ => ⟨S1x1x512, .f32⟩
  | .local .tc .vmem, ⟨17, _⟩ => ⟨S1x1x512, .f32⟩
  | .local .tc .vmem, ⟨18, _⟩ => ⟨S1x1x512, .i32⟩
  | .local .tc .vmem, ⟨19, _⟩ => ⟨S1x1x512, .i32⟩
  | .local .tc .vmem, ⟨20, _⟩ => ⟨S1x512x512, .f32⟩
  | .local .tc .vmem, ⟨21, _⟩ => ⟨S1x512x512, .f32⟩
  | .local .tc .vmem, ⟨22, _⟩ => ⟨S1x512x512, .f32⟩
  | .local .tc .vmem, ⟨23, _⟩ => ⟨S1x512x512, .f32⟩
  | .local .tc .smem, ⟨0, _⟩ => ⟨S8, .i32⟩
  | .local .scVector .vmem, ⟨0, _⟩ => ⟨S128, .i32⟩
  | .local .scVector .vmem, ⟨1, _⟩ => ⟨S128x128, .f32⟩
  | _, _ => ⟨S8x2048x16x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => false
  | ⟨26, _⟩ => false
  | ⟨27, _⟩ => false
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev main_v1_8 : Ref sig .tc := ⟨.hbm, 16, rfl⟩
abbrev main_v1_9 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v2_scv : Ref sig .scVector := ⟨.hbm, 18, rfl⟩
abbrev main_v3_scv : Ref sig .scVector := ⟨.hbm, 19, rfl⟩
abbrev main_v4_scv : Ref sig .scVector := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x16x128 : Shape := ⟨4, ![8, 2048, 16, 128]⟩
abbrev S8x2048x16 : Shape := ⟨3, ![8, 2048, 16]⟩
abbrev S8x2048x16x1 : Shape := ⟨4, ![8, 2048, 16, 1]⟩
abbrev S8x512x2 : Shape := ⟨3, ![8, 512, 2]⟩
abbrev S8 : Shape := ⟨1, ![8]⟩
abbrev S_ : Shape := ⟨0, ![]⟩
abbrev S8x512x1 : Shape := ⟨3, ![8, 512, 1]⟩
abbrev S8x512 : Shape := ⟨2, ![8, 512]⟩
abbrev S512 : Shape := ⟨1, ![512]⟩
abbrev S1x512 : Shape := ⟨2, ![1, 512]⟩
abbrev S8x1 : Shape := ⟨2, ![8, 1]⟩
abbrev S1 : Shape := ⟨1, ![1]⟩
abbrev S1x1x1 : Shape := ⟨3, ![1, 1, 1]⟩
abbrev S8x1x512 : Shape := ⟨3, ![8, 1, 512]⟩
abbrev S8x512x512 : Shape := ⟨3, ![8, 512, 512]⟩
abbrev S512x512 : Shape := ⟨2, ![512, 512]⟩
abbrev S1x512x512 : Shape := ⟨3, ![1, 512, 512]⟩
abbrev S8x32768x128 : Shape := ⟨3, ![8, 32768, 128]⟩
abbrev S8x512x128 : Shape := ⟨3, ![8, 512, 128]⟩
abbrev S8x32768x1 : Shape := ⟨3, ![8, 32768, 1]⟩

abbrev nBuf : Space → Nat
  | .hbm => 237
  | .vmem => 0
  | .smem => 0
  | _ => 0

abbrev hbmTy0_0 (i : Nat) : BufTy := match i % 128 with
  | 0 => ⟨S8x2048x16x128, .f32⟩
  | 1 => ⟨S8x2048x16, .f32⟩
  | 2 => ⟨S8x2048x16x1, .f32⟩
  | 3 => ⟨S8x2048x16x1, .f32⟩
  | 4 => ⟨S8x512x2, .i32⟩
  | 5 => ⟨S8, .i32⟩
  | 6 => ⟨S8, .i32⟩
  | 7 => ⟨S_, .f32⟩
  | 8 => ⟨S8x2048x16, .f32⟩
  | 9 => ⟨S8x2048x16x1, .f32⟩
  | 10 => ⟨S8x512x1, .i32⟩
  | 11 => ⟨S8x512, .i32⟩
  | 12 => ⟨S8x512x1, .i32⟩
  | 13 => ⟨S8x512, .i32⟩
  | 14 => ⟨S_, .i32⟩
  | 15 => ⟨S8x512, .i32⟩
  | 16 => ⟨S8x512, .i32⟩
  | 17 => ⟨S8x512, .i32⟩
  | 18 => ⟨S8x512, .i32⟩
  | 19 => ⟨S512, .i32⟩
  | 20 => ⟨S1x512, .i32⟩
  | 21 => ⟨S8x1, .i32⟩
  | 22 => ⟨S8x512, .i32⟩
  | 23 => ⟨S8x512, .i32⟩
  | 24 => ⟨S8x512, .i1⟩
  | 25 => ⟨S_, .i32⟩
  | 26 => ⟨S_, .i32⟩
  | 27 => ⟨S8x512, .i32⟩
  | 28 => ⟨S8x512, .i32⟩
  | 29 => ⟨S8x512, .i32⟩
  | 30 => ⟨S8x512, .i32⟩
  | 31 => ⟨S8x512, .i32⟩
  | 32 => ⟨S_, .i32⟩
  | 33 => ⟨S8x512, .i32⟩
  | 34 => ⟨S8x512, .i1⟩
  | 35 => ⟨S_, .i32⟩
  | 36 => ⟨S8x512, .i32⟩
  | 37 => ⟨S8x512, .i32⟩
  | 38 => ⟨S8x512, .i32⟩
  | 39 => ⟨S8x512x1, .i32⟩
  | 40 => ⟨S1, .i32⟩
  | 41 => ⟨S_, .i32⟩
  | 42 => ⟨S8x512x1, .i32⟩
  | 43 => ⟨S8x512x1, .i1⟩
  | 44 => ⟨S1x1x1, .i32⟩
  | 45 => ⟨S8x512x1, .i32⟩
  | 46 => ⟨S8x512x1, .i1⟩
  | 47 => ⟨S8x512x1, .i1⟩
  | 48 => ⟨S_, .i1⟩
  | 49 => ⟨S8x512, .i1⟩
  | 50 => ⟨S8x512, .i32⟩
  | 51 => ⟨S_, .i32⟩
  | 52 => ⟨S8x512, .i32⟩
  | 53 => ⟨S8x512, .i32⟩
  | 54 => ⟨S_, .i32⟩
  | 55 => ⟨S8x512, .i32⟩
  | 56 => ⟨S8x512, .i1⟩
  | 57 => ⟨S_, .i32⟩
  | 58 => ⟨S8x512, .i32⟩
  | 59 => ⟨S8x512, .i32⟩
  | 60 => ⟨S8x512, .i32⟩
  | 61 => ⟨S8x512x1, .i32⟩
  | 62 => ⟨S1, .i32⟩
  | 63 => ⟨S_, .i32⟩
  | 64 => ⟨S8x512x1, .i32⟩
  | 65 => ⟨S8x512x1, .i1⟩
  | 66 => ⟨S1x1x1, .i32⟩
  | 67 => ⟨S8x512x1, .i32⟩
  | 68 => ⟨S8x512x1, .i1⟩
  | 69 => ⟨S8x512x1, .i1⟩
  | 70 => ⟨S_, .i1⟩
  | 71 => ⟨S8x512, .i1⟩
  | 72 => ⟨S8x512, .i1⟩
  | 73 => ⟨S_, .i1⟩
  | 74 => ⟨S8x512, .i1⟩
  | 75 => ⟨S8x512, .i1⟩
  | 76 => ⟨S_, .i32⟩
  | 77 => ⟨S_, .i32⟩
  | 78 => ⟨S8x512, .i32⟩
  | 79 => ⟨S8x512, .i32⟩
  | 80 => ⟨S_, .i32⟩
  | 81 => ⟨S_, .i32⟩
  | 82 => ⟨S8x512, .i32⟩
  | 83 => ⟨S8x512, .i32⟩
  | 84 => ⟨S8x512, .i32⟩
  | 85 => ⟨S_, .i32⟩
  | 86 => ⟨S8x512, .i32⟩
  | 87 => ⟨S8x512, .i1⟩
  | 88 => ⟨S8x512, .i32⟩
  | 89 => ⟨S8x512, .i32⟩
  | 90 => ⟨S_, .i32⟩
  | 91 => ⟨S8x512, .i32⟩
  | 92 => ⟨S8x512, .i1⟩
  | 93 => ⟨S8x512, .i1⟩
  | 94 => ⟨S_, .i32⟩
  | 95 => ⟨S8x512, .i32⟩
  | 96 => ⟨S8x512, .i32⟩
  | 97 => ⟨S8x512, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S8x512, .i32⟩
  | 105 => ⟨S8x512, .i32⟩
  | 106 => ⟨S_, .i32⟩
  | 107 => ⟨S8x512, .i32⟩
  | 108 => ⟨S8x512, .i1⟩
  | 109 => ⟨S_, .i32⟩
  | 110 => ⟨S8x512, .i32⟩
  | 111 => ⟨S8x512, .i1⟩
  | 112 => ⟨S_, .i32⟩
  | 113 => ⟨S_, .i1⟩
  | 114 => ⟨S8x512, .i1⟩
  | 115 => ⟨S8x512, .i1⟩
  | 116 => ⟨S8x512, .i1⟩
  | 117 => ⟨S8x512, .i32⟩
  | 118 => ⟨S8x512, .i32⟩
  | 119 => ⟨S8x512, .i32⟩
  | 120 => ⟨S8x512, .i32⟩
  | 121 => ⟨S8x512, .f32⟩
  | 122 => ⟨S8x512x1, .f32⟩
  | 123 => ⟨S8x1x512, .f32⟩
  | 124 => ⟨S8x512x512, .f32⟩
  | 125 => ⟨S8x512x512, .f32⟩
  | 126 => ⟨S8x512x512, .f32⟩
  | 127 => ⟨S_, .f32⟩
  | _ => ⟨S8x2048x16x128, .f32⟩

abbrev hbmTy0_1 (i : Nat) : BufTy := match i % 128 with
  | 0 => ⟨S512x512, .f32⟩
  | 1 => ⟨S512x512, .i32⟩
  | 2 => ⟨S_, .i32⟩
  | 3 => ⟨S512x512, .i32⟩
  | 4 => ⟨S512x512, .i32⟩
  | 5 => ⟨S512x512, .i32⟩
  | 6 => ⟨S512x512, .i1⟩
  | 7 => ⟨S_, .f32⟩
  | 8 => ⟨S512x512, .f32⟩
  | 9 => ⟨S512x512, .f32⟩
  | 10 => ⟨S1x512x512, .f32⟩
  | 11 => ⟨S8x512x512, .f32⟩
  | 12 => ⟨S8x512x512, .f32⟩
  | 13 => ⟨S8x32768x128, .f32⟩
  | 14 => ⟨S8x512x1, .i32⟩
  | 15 => ⟨S_, .i32⟩
  | 16 => ⟨S8x512x1, .i32⟩
  | 17 => ⟨S8x512x1, .i1⟩
  | 18 => ⟨S_, .i32⟩
  | 19 => ⟨S8x512x1, .i32⟩
  | 20 => ⟨S8x512x1, .i32⟩
  | 21 => ⟨S8x512x1, .i32⟩
  | 22 => ⟨S1, .i32⟩
  | 23 => ⟨S_, .i32⟩
  | 24 => ⟨S8x512x1, .i32⟩
  | 25 => ⟨S8x512x1, .i1⟩
  | 26 => ⟨S1x1x1, .i32⟩
  | 27 => ⟨S8x512x1, .i32⟩
  | 28 => ⟨S8x512x1, .i1⟩
  | 29 => ⟨S8x512x1, .i1⟩
  | 30 => ⟨S_, .i1⟩
  | 31 => ⟨S8x512, .i1⟩
  | 32 => ⟨S8x512x128, .f32⟩
  | 33 => ⟨S8x512x128, .i1⟩
  | 34 => ⟨S_, .f32⟩
  | 35 => ⟨S8x512x128, .f32⟩
  | 36 => ⟨S8x512x128, .f32⟩
  | 37 => ⟨S8x32768x1, .f32⟩
  | 38 => ⟨S8x512x1, .i32⟩
  | 39 => ⟨S_, .i32⟩
  | 40 => ⟨S8x512x1, .i32⟩
  | 41 => ⟨S8x512x1, .i1⟩
  | 42 => ⟨S_, .i32⟩
  | 43 => ⟨S8x512x1, .i32⟩
  | 44 => ⟨S8x512x1, .i32⟩
  | 45 => ⟨S8x512x1, .i32⟩
  | 46 => ⟨S1, .i32⟩
  | 47 => ⟨S_, .i32⟩
  | 48 => ⟨S8x512x1, .i32⟩
  | 49 => ⟨S8x512x1, .i1⟩
  | 50 => ⟨S1x1x1, .i32⟩
  | 51 => ⟨S8x512x1, .i32⟩
  | 52 => ⟨S8x512x1, .i1⟩
  | 53 => ⟨S8x512x1, .i1⟩
  | 54 => ⟨S_, .i1⟩
  | 55 => ⟨S8x512, .i1⟩
  | 56 => ⟨S8x512x1, .f32⟩
  | 57 => ⟨S8x512x1, .i1⟩
  | 58 => ⟨S_, .f32⟩
  | 59 => ⟨S8x512x1, .f32⟩
  | 60 => ⟨S8x512x1, .f32⟩
  | 61 => ⟨S8x32768x1, .f32⟩
  | 62 => ⟨S8x512x1, .i32⟩
  | 63 => ⟨S_, .i32⟩
  | 64 => ⟨S8x512x1, .i32⟩
  | 65 => ⟨S8x512x1, .i1⟩
  | 66 => ⟨S_, .i32⟩
  | 67 => ⟨S8x512x1, .i32⟩
  | 68 => ⟨S8x512x1, .i32⟩
  | 69 => ⟨S8x512x1, .i32⟩
  | 70 => ⟨S1, .i32⟩
  | 71 => ⟨S_, .i32⟩
  | 72 => ⟨S8x512x1, .i32⟩
  | 73 => ⟨S8x512x1, .i1⟩
  | 74 => ⟨S1x1x1, .i32⟩
  | 75 => ⟨S8x512x1, .i32⟩
  | 76 => ⟨S8x512x1, .i1⟩
  | 77 => ⟨S8x512x1, .i1⟩
  | 78 => ⟨S_, .i1⟩
  | 79 => ⟨S8x512, .i1⟩
  | 80 => ⟨S8x512x1, .f32⟩
  | 81 => ⟨S8x512x1, .i1⟩
  | 82 => ⟨S_, .f32⟩
  | 83 => ⟨S8x512x1, .f32⟩
  | 84 => ⟨S8x512x1, .f32⟩
  | 85 => ⟨S8x32768x1, .f32⟩
  | 86 => ⟨S8x512x1, .i32⟩
  | 87 => ⟨S_, .i32⟩
  | 88 => ⟨S8x512x1, .i32⟩
  | 89 => ⟨S8x512x1, .i1⟩
  | 90 => ⟨S_, .i32⟩
  | 91 => ⟨S8x512x1, .i32⟩
  | 92 => ⟨S8x512x1, .i32⟩
  | 93 => ⟨S8x512x1, .i32⟩
  | 94 => ⟨S1, .i32⟩
  | 95 => ⟨S_, .i32⟩
  | 96 => ⟨S8x512x1, .i32⟩
  | 97 => ⟨S8x512x1, .i1⟩
  | 98 => ⟨S1x1x1, .i32⟩
  | 99 => ⟨S8x512x1, .i32⟩
  | 100 => ⟨S8x512x1, .i1⟩
  | 101 => ⟨S8x512x1, .i1⟩
  | 102 => ⟨S_, .i1⟩
  | 103 => ⟨S8x512, .i1⟩
  | 104 => ⟨S8x512x1, .f32⟩
  | 105 => ⟨S8x512x1, .i1⟩
  | 106 => ⟨S_, .f32⟩
  | 107 => ⟨S8x512x1, .f32⟩
  | 108 => ⟨S8x512x1, .f32⟩
  | _ => ⟨S8x2048x16x128, .f32⟩

abbrev hbmTy (i : Nat) : BufTy := match i / 128 with
  | 0 => hbmTy0_0 i
  | 1 => hbmTy0_1 i
  | _ => ⟨S8x2048x16x128, .f32⟩

abbrev bufTy : (tb : Table) → Fin (tcTables nBuf tb) → BufTy
  | .hbm, ⟨i, _⟩ => hbmTy i
  | _, _ => ⟨S8x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_call1_v0 : Ref sig .tc := ⟨.hbm, 29, rfl⟩
abbrev main_call1_v1_0 : Ref sig .tc := ⟨.hbm, 30, rfl⟩
abbrev main_v17 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_c_4 : Ref sig .tc := ⟨.hbm, 51, rfl⟩
abbrev main_call2_v14 : Ref sig .tc := ⟨.hbm, 52, rfl⟩
abbrev main_v18 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_c_4 : Ref sig .tc := ⟨.hbm, 73, rfl⟩
abbrev main_call3_v14 : Ref sig .tc := ⟨.hbm, 74, rfl⟩
abbrev main_v19 : Ref sig .tc := ⟨.hbm, 75, rfl⟩
abbrev main_c_1 : Ref sig .tc := ⟨.hbm, 76, rfl⟩
abbrev main_call4_v0 : Ref sig .tc := ⟨.hbm, 77, rfl⟩
abbrev main_call4_v1 : Ref sig .tc := ⟨.hbm, 78, rfl⟩
abbrev main_v20 : Ref sig .tc := ⟨.hbm, 79, rfl⟩
abbrev main_c_2 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_v5 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_c : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_c_0 : Ref sig .tc := ⟨.hbm, 94, rfl⟩
abbrev main_call5_v12 : Ref sig .tc := ⟨.hbm, 95, rfl⟩
abbrev main_call5_v13 : Ref sig .tc := ⟨.hbm, 96, rfl⟩
abbrev main_v21 : Ref sig .tc := ⟨.hbm, 97, rfl⟩
abbrev main_c_3 : Ref sig .tc := ⟨.hbm, 98, rfl⟩
abbrev main_call6_v0 : Ref sig .tc := ⟨.hbm, 99, rfl⟩
abbrev main_call6_c : Ref sig .tc := ⟨.hbm, 100, rfl⟩
abbrev main_call6_v1 : Ref sig .tc := ⟨.hbm, 101, rfl⟩
abbrev main_call6_c_0 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_c_1 : Ref sig .tc := ⟨.hbm, 106, rfl⟩
abbrev main_call6_v5 : Ref sig .tc := ⟨.hbm, 107, rfl⟩
abbrev main_call6_v6 : Ref sig .tc := ⟨.hbm, 108, rfl⟩
abbrev main_call6_c_2 : Ref sig .tc := ⟨.hbm, 109, rfl⟩
abbrev main_call6_v7 : Ref sig .tc := ⟨.hbm, 110, rfl⟩
abbrev main_call6_v8 : Ref sig .tc := ⟨.hbm, 111, rfl⟩
abbrev main_call6_c_3 : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_v12 : Ref sig .tc := ⟨.hbm, 116, rfl⟩
abbrev main_call6_v13 : Ref sig .tc := ⟨.hbm, 117, rfl⟩
abbrev main_call6_v14 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_cst_4 : Ref sig .tc := ⟨.hbm, 127, rfl⟩
abbrev main_v30 : Ref sig .tc := ⟨.hbm, 128, rfl⟩
abbrev main_call7_v0 : Ref sig .tc := ⟨.hbm, 129, rfl⟩
abbrev main_call7_c : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_cst : Ref sig .tc := ⟨.hbm, 135, rfl⟩
abbrev main_call7_v5 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_call8_c : Ref sig .tc := ⟨.hbm, 143, rfl⟩
abbrev main_call8_v0 : Ref sig .tc := ⟨.hbm, 144, rfl⟩
abbrev main_call8_v1 : Ref sig .tc := ⟨.hbm, 145, rfl⟩
abbrev main_call8_c_0 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_call8_c_1 : Ref sig .tc := ⟨.hbm, 150, rfl⟩
abbrev main_call8_c_2 : Ref sig .tc := ⟨.hbm, 151, rfl⟩
abbrev main_call8_v5 : Ref sig .tc := ⟨.hbm, 152, rfl⟩
abbrev main_call8_v6 : Ref sig .tc := ⟨.hbm, 153, rfl⟩
abbrev main_call8_v7 : Ref sig .tc := ⟨.hbm, 154, rfl⟩
abbrev main_call8_v8 : Ref sig .tc := ⟨.hbm, 155, rfl⟩
abbrev main_call8_v9 : Ref sig .tc := ⟨.hbm, 156, rfl⟩
abbrev main_call8_v10 : Ref sig .tc := ⟨.hbm, 157, rfl⟩
abbrev main_call8_c_3 : Ref sig .tc := ⟨.hbm, 158, rfl⟩
abbrev main_call8_v11 : Ref sig .tc := ⟨.hbm, 159, rfl⟩
abbrev main_call8_v12 : Ref sig .tc := ⟨.hbm, 160, rfl⟩
abbrev main_call8_v13 : Ref sig .tc := ⟨.hbm, 161, rfl⟩
abbrev main_call8_cst : Ref sig .tc := ⟨.hbm, 162, rfl⟩
abbrev main_call8_v14 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_call9_c : Ref sig .tc := ⟨.hbm, 167, rfl⟩
abbrev main_call9_v0 : Ref sig .tc := ⟨.hbm, 168, rfl⟩
abbrev main_call9_v1 : Ref sig .tc := ⟨.hbm, 169, rfl⟩
abbrev main_call9_c_0 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_call9_c_1 : Ref sig .tc := ⟨.hbm, 174, rfl⟩
abbrev main_call9_c_2 : Ref sig .tc := ⟨.hbm, 175, rfl⟩
abbrev main_call9_v5 : Ref sig .tc := ⟨.hbm, 176, rfl⟩
abbrev main_call9_v6 : Ref sig .tc := ⟨.hbm, 177, rfl⟩
abbrev main_call9_v7 : Ref sig .tc := ⟨.hbm, 178, rfl⟩
abbrev main_call9_v8 : Ref sig .tc := ⟨.hbm, 179, rfl⟩
abbrev main_call9_v9 : Ref sig .tc := ⟨.hbm, 180, rfl⟩
abbrev main_call9_v10 : Ref sig .tc := ⟨.hbm, 181, rfl⟩
abbrev main_call9_c_3 : Ref sig .tc := ⟨.hbm, 182, rfl⟩
abbrev main_call9_v11 : Ref sig .tc := ⟨.hbm, 183, rfl⟩
abbrev main_call9_v12 : Ref sig .tc := ⟨.hbm, 184, rfl⟩
abbrev main_call9_v13 : Ref sig .tc := ⟨.hbm, 185, rfl⟩
abbrev main_call9_cst : Ref sig .tc := ⟨.hbm, 186, rfl⟩
abbrev main_call9_v14 : Ref sig .tc := ⟨.hbm, 187, rfl⟩
abbrev main_v40 : Ref sig .tc := ⟨.hbm, 188, rfl⟩
abbrev main_v41 : Ref sig .tc := ⟨.hbm, 189, rfl⟩
abbrev main_v42 : Ref sig .tc := ⟨.hbm, 190, rfl⟩
abbrev main_call10_c : Ref sig .tc := ⟨.hbm, 191, rfl⟩
abbrev main_call10_v0 : Ref sig .tc := ⟨.hbm, 192, rfl⟩
abbrev main_call10_v1 : Ref sig .tc := ⟨.hbm, 193, rfl⟩
abbrev main_call10_c_0 : Ref sig .tc := ⟨.hbm, 194, rfl⟩
abbrev main_call10_v2 : Ref sig .tc := ⟨.hbm, 195, rfl⟩
abbrev main_call10_v3 : Ref sig .tc := ⟨.hbm, 196, rfl⟩
abbrev main_call10_v4 : Ref sig .tc := ⟨.hbm, 197, rfl⟩
abbrev main_call10_c_1 : Ref sig .tc := ⟨.hbm, 198, rfl⟩
abbrev main_call10_c_2 : Ref sig .tc := ⟨.hbm, 199, rfl⟩
abbrev main_call10_v5 : Ref sig .tc := ⟨.hbm, 200, rfl⟩
abbrev main_call10_v6 : Ref sig .tc := ⟨.hbm, 201, rfl⟩
abbrev main_call10_v7 : Ref sig .tc := ⟨.hbm, 202, rfl⟩
abbrev main_call10_v8 : Ref sig .tc := ⟨.hbm, 203, rfl⟩
abbrev main_call10_v9 : Ref sig .tc := ⟨.hbm, 204, rfl⟩
abbrev main_call10_v10 : Ref sig .tc := ⟨.hbm, 205, rfl⟩
abbrev main_call10_c_3 : Ref sig .tc := ⟨.hbm, 206, rfl⟩
abbrev main_call10_v11 : Ref sig .tc := ⟨.hbm, 207, rfl⟩
abbrev main_call10_v12 : Ref sig .tc := ⟨.hbm, 208, rfl⟩
abbrev main_call10_v13 : Ref sig .tc := ⟨.hbm, 209, rfl⟩
abbrev main_call10_cst : Ref sig .tc := ⟨.hbm, 210, rfl⟩
abbrev main_call10_v14 : Ref sig .tc := ⟨.hbm, 211, rfl⟩
abbrev main_v43 : Ref sig .tc := ⟨.hbm, 212, rfl⟩
abbrev main_v44 : Ref sig .tc := ⟨.hbm, 213, rfl⟩
abbrev main_v45 : Ref sig .tc := ⟨.hbm, 214, rfl⟩
abbrev main_call11_c : Ref sig .tc := ⟨.hbm, 215, rfl⟩
abbrev main_call11_v0 : Ref sig .tc := ⟨.hbm, 216, rfl⟩
abbrev main_call11_v1 : Ref sig .tc := ⟨.hbm, 217, rfl⟩
abbrev main_call11_c_0 : Ref sig .tc := ⟨.hbm, 218, rfl⟩
abbrev main_call11_v2 : Ref sig .tc := ⟨.hbm, 219, rfl⟩
abbrev main_call11_v3 : Ref sig .tc := ⟨.hbm, 220, rfl⟩
abbrev main_call11_v4 : Ref sig .tc := ⟨.hbm, 221, rfl⟩
abbrev main_call11_c_1 : Ref sig .tc := ⟨.hbm, 222, rfl⟩
abbrev main_call11_c_2 : Ref sig .tc := ⟨.hbm, 223, rfl⟩
abbrev main_call11_v5 : Ref sig .tc := ⟨.hbm, 224, rfl⟩
abbrev main_call11_v6 : Ref sig .tc := ⟨.hbm, 225, rfl⟩
abbrev main_call11_v7 : Ref sig .tc := ⟨.hbm, 226, rfl⟩
abbrev main_call11_v8 : Ref sig .tc := ⟨.hbm, 227, rfl⟩
abbrev main_call11_v9 : Ref sig .tc := ⟨.hbm, 228, rfl⟩
abbrev main_call11_v10 : Ref sig .tc := ⟨.hbm, 229, rfl⟩
abbrev main_call11_c_3 : Ref sig .tc := ⟨.hbm, 230, rfl⟩
abbrev main_call11_v11 : Ref sig .tc := ⟨.hbm, 231, rfl⟩
abbrev main_call11_v12 : Ref sig .tc := ⟨.hbm, 232, rfl⟩
abbrev main_call11_v13 : Ref sig .tc := ⟨.hbm, 233, rfl⟩
abbrev main_call11_cst : Ref sig .tc := ⟨.hbm, 234, rfl⟩
abbrev main_call11_v14 : Ref sig .tc := ⟨.hbm, 235, rfl⟩
abbrev main_v46 : Ref sig .tc := ⟨.hbm, 236, rfl⟩

abbrev nD : Nat := 1
abbrev τ : Topo := Topo.v7x

variable {F : FTy → Type} [FloatOps F]
-- ==== Proof.Launch.lean ====
/-
  The set-up shared by the proofs about the gold-span kernel: the program's tables as the launch theorem for SparseCore
  programs sees them, the ghost algebra, and the buffers of the gather.

  Three ghost components are needed: the rounds of the SparseCore handshakes, the rounds of the pipeline that runs the
  sort on the TensorCore, and the counters of the tiles' own copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.RegionArraysS
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.GoldSpans

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program's tables -/

/-- The labels below the SparseCore layer: the kernels' and the one pipeline's. -/
abbrev ΛP : Labels := Pipeline.Sig Λ₀ (Fin 1) fun p => (pcfgs (F := F) p).Adm
/-- The SparseCore layer: one call, on the vector subcores. -/
abbrev K : SparseCore.Cfg τ sig (ΛP (F := F)) 1 := sc (F := F)
/-- The tables below the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq : (K (F := F)).nCore 0 = 2 := rfl
theorem nSub_eq : (K (F := F)).nSub 0 = 16 := rfl

/-- The launch theorem's side conditions on the layer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

/-- The rounds of the SparseCore handshakes, -/
abbrev UH : Type := URounds (GSem nD τ sig) ℕ
/-- of the sort's pipeline, -/
abbrev UP : Type := UR sig nD τ
/-- and the three components together. -/
abbrev UU : Type := UH × (UP × Counters)

local notation "𝕄" => MT nD τ sig (HIx 1) (Elt F) ℕ UU ℕ

abbrev EH : Emb UH (MT nD τ sig (HIx 1) (Elt F) ℕ UU ℕ) := embL

/-- Where the pipeline's rounds sit in the whole resource. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F) : Emb UP 𝕄).LandsIn (upEmb : UEmb _ 𝕄) := by unfold EP; infer_instance

/-! ## The gather's buffers -/

/-- The table of span vectors, one row per span of the whole batch. -/
abbrev tLoc (d : Dev nD) : Loc nD τ sig := (SparseCore.T d).loc main_v2
/-- The row numbers the sort computed. -/
abbrev nLoc (d : Dev nD) : Loc nD τ sig := (SparseCore.T d).loc main_v3
/-- The gathered rows. -/
abbrev gLoc (d : Dev nD) : Loc nD τ sig := (SparseCore.T d).loc main_v4

/-- The row of the table that a word names. -/
def rowAt (w : BitVec 32) : Fin 262144 := ⟨w.toNat % 262144, Nat.mod_lt _ (by decide)⟩

/-- Row `y` of the result is the row of the table that entry `y` of the list names. -/
def gathered (x : S262144x128.Idx → Elt F .f32) (n : S4096.Idx → Elt F .i32) : S4096x128.Idx → Elt F .f32 :=
  fun y => x (ix2 (rowAt (n (ix1 (y 0)))) (y 1))

end Cert.GoldSpans

end
-- ==== Proof.SortBody.lean ====
/-
  The TensorCore kernel's body: what it leaves in each output's block, as a function of its three input blocks.
-/
module

public import proofs.«01_k».proof.Proof.Launch
public import Idealize.ShloMosaic.Lib.VecWindow
public import Idealize.ShloMosaic.Lib.WritesUnit
public import Idealize.ShloMosaic.Lib.Pipeline.ValueKit.Tiles

@[expose] public section

set_option maxRecDepth 16384

noncomputable section

namespace Cert.GoldSpans

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The values -/

/-- The batch's number of gold spans, read off the table of lengths. -/
def lenOf (i : grid0.Coords) (x0 : Vec F S8 .i32) : Elt F .i32 := x0 (ix1 (i 0))
/-- The spans' begins and ends, as a column, -/
def colB (x1 : Vec F S1x512x2 .i32) : Vec F S1x512x1 .i32 := fun y => x1 (ix3 (y 0) (y 1) 0)
def colE (x1 : Vec F S1x512x2 .i32) : Vec F S1x512x1 .i32 := fun y => x1 (ix3 (y 0) (y 1) 1)
/-- and as a row. -/
def rowB (x2 : Vec F S1x2x512 .i32) : Vec F S1x1x512 .i32 := fun y => x2 (ix3 (y 0) 0 (y 2))
def rowE (x2 : Vec F S1x2x512 .i32) : Vec F S1x1x512 .i32 := fun y => x2 (ix3 (y 0) 1 (y 2))

def posC : IVec S512x1 32 := iota .tc S512x1 32 [0] iota_S512x1_d0_w32
def posR : IVec S1x512 32 := iota .tc S1x512 32 [1] iota_S1x512_d1_w32

section Outs
variable (i : grid0.Coords) (x0 : Vec F S8 .i32) (x1 : Vec F S1x512x2 .i32) (x2 : Vec F S1x2x512 .i32)

/-- The masked keys, as a column. -/
def maskedC : IVec S512x1 32 := k0_pay2 (lenOf i x0) (colB x1) (colE x1)
/-- The ranks of the composite keys. -/
def rankC : IVec S512x1 32 := k0_pay3 (lenOf i x0) (colB x1) (colE x1) (rowB x2) (rowE x2)

/-- The output blocks. -/
def oIdx : IVec S1x1x512 32 := k0_pay8 posR (maskedC i x0 x1) (rankC i x0 x1 x2)
def oReidx : IVec S1x1x512 32 := k0_pay9 posC posR (rankC i x0 x1 x2)
def oBeg : IVec S1x1x512 32 := k0_pay10 posR (maskedC i x0 x1) (rankC i x0 x1 x2)
def oEnd : IVec S1x1x512 32 := k0_pay11 posR (maskedC i x0 x1) (rankC i x0 x1 x2)
def oBegF : FVec F S1x1x512 .f32 := k0_pay12 (k0_pay6 posR (maskedC i x0 x1) (rankC i x0 x1 x2))
def oEndF : FVec F S1x1x512 .f32 := k0_pay13 (k0_pay7 posR (maskedC i x0 x1) (rankC i x0 x1 x2))
def oScore : FVec F S1x1x512 .f32 := k0_pay14
def oRow : IVec S1x1x512 32 := k0_pay15 (BitVec.ofNat 32 (i 0).val) (k0_pay5 posR (maskedC i x0 x1) (rankC i x0 x1 x2))
def oSq : FVec F S1x512x512 .f32 := k0_pay17 (lenOf i x0)
def oTri : FVec F S1x512x512 .f32 := k0_pay1 (k0_pay18 (lenOf i x0)) (Scalar.ofBits .f32 0x00000000#32) k0_pay19
end Outs

/-! ## The loads -/

theorem off1_eq (i : grid0.Coords) : k0_off1 i = ![(i 0).val] := by
  have e : ∀ n : Fin 8, (Scalar.indexCast (BitVec.ofNat 32 n.val)).toNat = n.val := by decide
  exact congrArg (fun n => ![n]) (e (i 0))

theorem load_len (i : grid0.Coords) (arg1 : Memref sig .tc .smem S8 .i32) (harg1 : arg1.IsWhole) (x0 : Vec F S8 .i32) (y) :
    View.readAt (Elt F) arg1.view (Rect.unit (s := S8) (k0_off1 i) S1.size (k0_off1_inb i)).toLoadRect (harg1.unread x0) y = lenOf i x0 := by
  rw [View.readAt_apply, harg1.read_unread]
  refine congrArg x0 (funext fun a => Fin.ext ((Rect.idx_unit_val _ _ _ y a).trans ?_))
  have hy : (y 0).val < 1 := (y 0).isLt
  match a with
  | 0 =>
    exact (congrArg₂ (· + ·) (congrFun (off1_eq i) 0) (Nat.lt_one_iff.mp hy)).trans (Nat.add_zero _)

theorem load_colB (arg : Memref sig .tc .vmem S1x512x2 .i32) (harg : arg.IsWhole) (x : Vec F S1x512x2 .i32) :
    View.readAt (Elt F) arg.view (Rect.unit (s := S1x512x2) ![0, 0, 0] S1x512x1.size inb_S1x512x2_S1x512x1_0_0_0).toLoadRect (harg.unread x) = colB x := by
  funext y
  rw [View.readAt_apply, harg.read_unread]
  refine congrArg x (funext fun a => Fin.ext ((Rect.idx_unit_val _ _ _ y a).trans ?_))
  match a with
  | 0 => exact Nat.zero_add _
  | 1 => exact Nat.zero_add _
  | 2 => have hy : (y 2).val < 1 := (y 2).isLt
         show 0 + (y 2).val = 0; omega

theorem load_colE (arg : Memref sig .tc .vmem S1x512x2 .i32) (harg : arg.IsWhole) (x : Vec F S1x512x2 .i32) :
    View.readAt (Elt F) arg.view (Rect.unit (s := S1x512x2) ![0, 0, 1] S1x512x1.size inb_S1x512x2_S1x512x1_0_0_1).toLoadRect (harg.unread x) = colE x := by
  funext y
  rw [View.readAt_apply, harg.read_unread]
  refine congrArg x (funext fun a => Fin.ext ((Rect.idx_unit_val _ _ _ y a).trans ?_))
  match a with
  | 0 => exact Nat.zero_add _
  | 1 => exact Nat.zero_add _
  | 2 => have hy : (y 2).val < 1 := (y 2).isLt
         show 1 + (y 2).val = 1; omega

theorem load_rowB (arg : Memref sig .tc .vmem S1x2x512 .i32) (harg : arg.IsWhole) (x : Vec F S1x2x512 .i32) :
    View.readAt (Elt F) arg.view (Rect.unit (s := S1x2x512) ![0, 0, 0] S1x1x512.size inb_S1x2x512_S1x1x512_0_0_0).toLoadRect (harg.unread x) = rowB x := by
  funext y
  rw [View.readAt_apply, harg.read_unread]
  refine congrArg x (funext fun a => Fin.ext ((Rect.idx_unit_val _ _ _ y a).trans ?_))
  match a with
  | 0 => exact Nat.zero_add _
  | 1 => have hy : (y 1).val < 1 := (y 1).isLt
         show 0 + (y 1).val = 0; omega
  | 2 => exact Nat.zero_add _

theorem load_rowE (arg : Memref sig .tc .vmem S1x2x512 .i32) (harg : arg.IsWhole) (x : Vec F S1x2x512 .i32) :
    View.readAt (Elt F) arg.view (Rect.unit (s := S1x2x512) ![0, 1, 0] S1x1x512.size inb_S1x2x512_S1x1x512_0_1_0).toLoadRect (harg.unread x) = rowE x := by
  funext y
  rw [View.readAt_apply, harg.read_unread]
  refine congrArg x (funext fun a => Fin.ext ((Rect.idx_unit_val _ _ _ y a).trans ?_))
  match a with
  | 0 => exact Nat.zero_add _
  | 1 => have hy : (y 1).val < 1 := (y 1).isLt
         show 1 + (y 1).val = 1; omega
  | 2 => exact Nat.zero_add _

set_option maxHeartbeats 1000000 in
/-- The body on any whole staging buffers. -/
theorem sort_body (c : Dev nD) (i : grid0.Coords) (arg1 : Memref sig .tc .smem S8 .i32) (harg1 : arg1.IsWhole)
    (arg2 : Memref sig .tc .vmem S1x512x2 .i32) (harg2 : arg2.IsWhole) (arg3 : Memref sig .tc .vmem S1x2x512 .i32) (harg3 : arg3.IsWhole)
    (arg4 : Memref sig .tc .vmem S1x1x512 .i32) (harg4 : arg4.IsWhole) (arg5 : Memref sig .tc .vmem S1x1x512 .i32) (harg5 : arg5.IsWhole)
    (arg6 : Memref sig .tc .vmem S1x1x512 .i32) (harg6 : arg6.IsWhole) (arg7 : Memref sig .tc .vmem S1x1x512 .i32) (harg7 : arg7.IsWhole)
    (arg8 : Memref sig .tc .vmem S1x1x512 .f32) (harg8 : arg8.IsWhole) (arg9 : Memref sig .tc .vmem S1x1x512 .f32) (harg9 : arg9.IsWhole)
    (arg10 : Memref sig .tc .vmem S1x1x512 .f32) (harg10 : arg10.IsWhole) (arg11 : Memref sig .tc .vmem S1x1x512 .i32) (harg11 : arg11.IsWhole)
    (arg12 : Memref sig .tc .vmem S1x512x512 .f32) (harg12 : arg12.IsWhole) (arg13 : Memref sig .tc .vmem S1x512x512 .f32) (harg13 : arg13.IsWhole)
    (x0 : Vec F S8 .i32) (x1 : Vec F S1x512x2 .i32) (x2 : Vec F S1x2x512 .i32) (E : Set ℕ) (Q : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d) ∗ (∃ d, owns (c.tc : Thread nD τ) arg5 fullShare d)
        ∗ (∃ d, owns (c.tc : Thread nD τ) arg6 fullShare d) ∗ (∃ d, owns (c.tc : Thread nD τ) arg7 fullShare d)
        ∗ (∃ d, owns (c.tc : Thread nD τ) arg8 fullShare d) ∗ (∃ d, owns (c.tc : Thread nD τ) arg9 fullShare d)
        ∗ (∃ d, owns (c.tc : Thread nD τ) arg10 fullShare d) ∗ (∃ d, owns (c.tc : Thread nD τ) arg11 fullShare d)
        ∗ (∃ d, owns (c.tc : Thread nD τ) arg12 fullShare d) ∗ (∃ d, owns (c.tc : Thread nD τ) arg13 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (oIdx i x0 x1 x2) ∗ owns (c.tc : Thread nD τ) arg5 fullShare (oReidx i x0 x1 x2)
            ∗ owns (c.tc : Thread nD τ) arg6 fullShare (oBeg i x0 x1 x2) ∗ owns (c.tc : Thread nD τ) arg7 fullShare (oEnd i x0 x1 x2)
            ∗ owns (c.tc : Thread nD τ) arg8 fullShare (oBegF i x0 x1 x2) ∗ owns (c.tc : Thread nD τ) arg9 fullShare (oEndF i x0 x1 x2)
            ∗ owns (c.tc : Thread nD τ) arg10 fullShare (oScore (F := F)) ∗ owns (c.tc : Thread nD τ) arg11 fullShare (oRow i x0 x1 x2)
            ∗ owns (c.tc : Thread nD τ) arg12 fullShare (oSq i x0) ∗ owns (c.tc : Thread nD τ) arg13 fullShare (oTri i x0)) -∗ Q ⟨⟩))
      ⊢ wp frame (wpE (defs₀ (F := F)) 𝒱₀ c.tc none) E (cc0__sort_mask_body i arg1 harg1 arg2 harg2 arg3 harg3 arg4 harg4 arg5 harg5 arg6 harg6 arg7 harg7 arg8 harg8 arg9 harg9 arg10 harg10 arg11 harg11 arg12 harg12 arg13 harg13) Q := by
  simp only [cc0__sort_mask_body_eq_skeleton]; unfold cc0__sort_mask_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec
  sl_step
  iapply Hk
  have hr : sort_body.sl.r c i arg1 harg1 x0 = lenOf i x0 := by
    unfold sort_body.sl.r
    exact load_len i arg1 harg1 x0 _
  have hr1 : sort_body.sl.r_1 c i arg1 harg1 arg2 harg2 x0 x1 = maskedC i x0 x1 := by
    unfold sort_body.sl.r_1
    rw [hr, load_colB, load_colE]; rfl
  have hr2 : sort_body.sl.r_2 c i arg1 harg1 arg2 harg2 arg3 harg3 x0 x1 x2 = rankC i x0 x1 x2 := by
    unfold sort_body.sl.r_2
    rw [hr, load_colB, load_colE, load_rowB, load_rowE]; rfl
  have hr3 : sort_body.sl.r_3 c i arg1 harg1 arg2 harg2 arg3 harg3 x0 x1 x2 = k0_pay5 posR (maskedC i x0 x1) (rankC i x0 x1 x2) := by
    unfold sort_body.sl.r_3
    rw [hr1, hr2]; rfl
  have hr4 : sort_body.sl.r_4 c i arg1 harg1 arg2 harg2 arg3 harg3 x0 x1 x2 = k0_pay6 posR (maskedC i x0 x1) (rankC i x0 x1 x2) := by
    unfold sort_body.sl.r_4
    rw [hr1, hr2]; rfl
  have hr5 : sort_body.sl.r_5 c i arg1 harg1 arg2 harg2 arg3 harg3 x0 x1 x2 = k0_pay7 posR (maskedC i x0 x1) (rankC i x0 x1 x2) := by
    unfold sort_body.sl.r_5
    rw [hr1, hr2]; rfl
  have hr6 : sort_body.sl.r_6 c i arg1 harg1 x0 = k0_pay18 (lenOf i x0) := by
    unfold sort_body.sl.r_6
    rw [hr]
  isplitl [H0]; · iexists _; isplitr; (ipureintro; exact harg1.read_unread _); iexact H0
  isplitl [H1]; · iexists _; isplitr; (ipureintro; exact harg2.read_unread _); iexact H1
  isplitl [H2]; · iexists _; isplitr; (ipureintro; exact harg3.read_unread _); iexact H2
  isplitl [H3]; · iexists _; isplitr; swap; (iexact H3); ipureintro; rw [hr1, hr2]; exact View.read_writes_full _ _ _ _ _
  isplitl [H4]; · iexists _; isplitr; swap; (iexact H4); ipureintro; rw [hr2]; exact View.read_writes_full _ _ _ _ _
  isplitl [H5]; · iexists _; isplitr; swap; (iexact H5); ipureintro; rw [hr1, hr2]; exact View.read_writes_full _ _ _ _ _
  isplitl [H6]; · iexists _; isplitr; swap; (iexact H6); ipureintro; rw [hr1, hr2]; exact View.read_writes_full _ _ _ _ _
  isplitl [H7]; · iexists _; isplitr; swap; (iexact H7); ipureintro; rw [hr4]; exact View.read_writes_full _ _ _ _ _
  isplitl [H8]; · iexists _; isplitr; swap; (iexact H8); ipureintro; rw [hr5]; exact View.read_writes_full _ _ _ _ _
  isplitl [H9]; · iexists _; isplitr; swap; (iexact H9); ipureintro; exact View.read_writes_full _ _ _ _ _
  isplitl [H10]; · iexists _; isplitr; swap; (iexact H10); ipureintro; rw [hr3]; exact View.read_writes_full _ _ _ _ _
  isplitl [H11]; · iexists _; isplitr; swap; (iexact H11); ipureintro; rw [hr]; exact View.read_writes_full _ _ _ _ _
  iexists _; isplitr; swap; (iexact H12); ipureintro; rw [hr6]; exact View.read_writes_full _ _ _ _ _

end Cert.GoldSpans

end
-- ==== Proof.Region.lean ====
/-
  The sort's pipeline as a region of @main: what each window's block holds before and after the body at every point, and
  the region's record over all unscoped buffers held at a valuation.

  The TensorCore enters the region owing the SparseCore its start signals, so the record carries those tallies along and
  keeps every wait it records at level zero, where the SparseCore call wants them.
-/
module

public import proofs.«01_k».proof.Proof.SortBody

@[expose] public section

set_option maxRecDepth 16384

noncomputable section

namespace Cert.GoldSpans

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose owesWithin)

variable {F : FTy → Type} [FloatOps F]

local notation "𝕄" => MT nD τ sig (HIx 1) (Elt F) ℕ UU ℕ

variable (V : Dev nD → Valuation τ sig (Elt F))

/-! ## The proof data -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The pairs of a cell and an index that waits may have recorded: those at level zero. -/
def lowPairs (c : Dev nD) : Set (SemLoc sig × HIx 1) := {p | (K (F := F)).lev ((c.tc : Thread nD τ), p.1) p.2 ≤ 0}

/-- Inputs keep their blocks, each output's block is what the body computes from the inputs' blocks. The start signals
    to the SparseCores stay owed throughout. -/
def sortDat (c : Dev nD) : Dat τ (Elt F) (HIx 1) ℕ UU ℕ cfg0 c where
  A w := V c (Proc.devRef .tc (Pipeline.arrRef spec0 w))
  after w t := match w with
    | ⟨0, _⟩ => blockAt V c 0 t
    | ⟨1, _⟩ => blockAt V c 1 t
    | ⟨2, _⟩ => blockAt V c 2 t
    | ⟨3, _⟩ => oIdx (grid0.coords t) (blockAt V c 0 t) (blockAt V c 1 t) (blockAt V c 2 t)
    | ⟨4, _⟩ => oReidx (grid0.coords t) (blockAt V c 0 t) (blockAt V c 1 t) (blockAt V c 2 t)
    | ⟨5, _⟩ => oBeg (grid0.coords t) (blockAt V c 0 t) (blockAt V c 1 t) (blockAt V c 2 t)
    | ⟨6, _⟩ => oEnd (grid0.coords t) (blockAt V c 0 t) (blockAt V c 1 t) (blockAt V c 2 t)
    | ⟨7, _⟩ => oBegF (grid0.coords t) (blockAt V c 0 t) (blockAt V c 1 t) (blockAt V c 2 t)
    | ⟨8, _⟩ => oEndF (grid0.coords t) (blockAt V c 0 t) (blockAt V c 1 t) (blockAt V c 2 t)
    | ⟨9, _⟩ => oScore
    | ⟨10, _⟩ => oRow (grid0.coords t) (blockAt V c 0 t) (blockAt V c 1 t) (blockAt V c 2 t)
    | ⟨11, _⟩ => oSq (grid0.coords t) (blockAt V c 0 t)
    | ⟨12, _⟩ => oTri (grid0.coords t) (blockAt V c 0 t)
  Φ _ := BI.emp
  q _ := fullShare
  owed _ := (K (F := F)).Otc c 0
  recorded _ := lowPairs (F := F) c

def sortDats (_ : Fin 1) (c : Dev nD) : Dat τ (Elt F) (HIx 1) ℕ UU ℕ cfg0 c := sortDat V c

theorem sortDat_A (c : Dev nD) (w : Fin cfg0.W) : (sortDat V c).A w = V c (Proc.devRef .tc (Pipeline.arrRef spec0 w)) := by
  dsimp only [sortDat]

theorem after_0 (c : Dev nD) (t : Fin cfg0.N) : (sortDat V c).after 0 t = blockAt V c 0 t := by dsimp only [sortDat]
theorem after_1 (c : Dev nD) (t : Fin cfg0.N) : (sortDat V c).after 1 t = blockAt V c 1 t := by dsimp only [sortDat]
theorem after_2 (c : Dev nD) (t : Fin cfg0.N) : (sortDat V c).after 2 t = blockAt V c 2 t := by dsimp only [sortDat]
theorem after_3 (c : Dev nD) (t : Fin cfg0.N) : (sortDat V c).after 3 t = oIdx (grid0.coords t) (blockAt V c 0 t) (blockAt V c 1 t) (blockAt V c 2 t) := by dsimp only [sortDat]
theorem after_4 (c : Dev nD) (t : Fin cfg0.N) : (sortDat V c).after 4 t = oReidx (grid0.coords t) (blockAt V c 0 t) (blockAt V c 1 t) (blockAt V c 2 t) := by dsimp only [sortDat]
theorem after_5 (c : Dev nD) (t : Fin cfg0.N) : (sortDat V c).after 5 t = oBeg (grid0.coords t) (blockAt V c 0 t) (blockAt V c 1 t) (blockAt V c 2 t) := by dsimp only [sortDat]
theorem after_6 (c : Dev nD) (t : Fin cfg0.N) : (sortDat V c).after 6 t = oEnd (grid0.coords t) (blockAt V c 0 t) (blockAt V c 1 t) (blockAt V c 2 t) := by dsimp only [sortDat]
theorem after_7 (c : Dev nD) (t : Fin cfg0.N) : (sortDat V c).after 7 t = oBegF (grid0.coords t) (blockAt V c 0 t) (blockAt V c 1 t) (blockAt V c 2 t) := by dsimp only [sortDat]
theorem after_8 (c : Dev nD) (t : Fin cfg0.N) : (sortDat V c).after 8 t = oEndF (grid0.coords t) (blockAt V c 0 t) (blockAt V c 1 t) (blockAt V c 2 t) := by dsimp only [sortDat]
theorem after_9 (c : Dev nD) (t : Fin cfg0.N) : (sortDat V c).after 9 t = oScore := by dsimp only [sortDat]
theorem after_10 (c : Dev nD) (t : Fin cfg0.N) : (sortDat V c).after 10 t = oRow (grid0.coords t) (blockAt V c 0 t) (blockAt V c 1 t) (blockAt V c 2 t) := by dsimp only [sortDat]
theorem after_11 (c : Dev nD) (t : Fin cfg0.N) : (sortDat V c).after 11 t = oSq (grid0.coords t) (blockAt V c 0 t) := by dsimp only [sortDat]
theorem after_12 (c : Dev nD) (t : Fin cfg0.N) : (sortDat V c).after 12 t = oTri (grid0.coords t) (blockAt V c 0 t) := by dsimp only [sortDat]

/-- An input's staging buffer holds its block at every point, fetched there or not. -/
theorem before_0 (c : Dev nD) (t : Fin cfg0.N) (d) : (sortDat V c).before 0 t d = blockAt V c 0 t :=
  ((sortDat V c).before_in_eq_fetched 0 rfl (fun _ => rfl) (fun _ _ _ => rfl)
    (fun t => by rw [after_0]; unfold Dat.blockOf blockAt; rw [sortDat_A]; try rfl) t d).trans
    (by unfold Dat.fetched Dat.blockOf blockAt; rw [sortDat_A]; try rfl)
theorem before_1 (c : Dev nD) (t : Fin cfg0.N) (d) : (sortDat V c).before 1 t d = blockAt V c 1 t :=
  ((sortDat V c).before_in_eq_fetched 1 rfl (fun _ => rfl) (fun _ _ _ => rfl)
    (fun t => by rw [after_1]; unfold Dat.blockOf blockAt; rw [sortDat_A]; try rfl) t d).trans
    (by unfold Dat.fetched Dat.blockOf blockAt; rw [sortDat_A]; try rfl)
theorem before_2 (c : Dev nD) (t : Fin cfg0.N) (d) : (sortDat V c).before 2 t d = blockAt V c 2 t :=
  ((sortDat V c).before_in_eq_fetched 2 rfl (fun _ => rfl) (fun _ _ _ => rfl)
    (fun t => by rw [after_2]; unfold Dat.blockOf blockAt; rw [sortDat_A]; try rfl) t d).trans
    (by unfold Dat.fetched Dat.blockOf blockAt; rw [sortDat_A]; try rfl)

/-! ## The body at a point -/

/-- The staging buffers in use at a point. -/
abbrev stg_0 (t : Fin cfg0.N) : Memref sig .tc .smem S8 .i32 := win0_0.stage (cfg0.slots t 0)
abbrev stg_1 (t : Fin cfg0.N) : Memref sig .tc .vmem S1x512x2 .i32 := win0_1.stage (cfg0.slots t 1)
abbrev stg_2 (t : Fin cfg0.N) : Memref sig .tc .vmem S1x2x512 .i32 := win0_2.stage (cfg0.slots t 2)
abbrev stg_3 (t : Fin cfg0.N) : Memref sig .tc .vmem S1x1x512 .i32 := win0_3.stage (cfg0.slots t 3)
abbrev stg_4 (t : Fin cfg0.N) : Memref sig .tc .vmem S1x1x512 .i32 := win0_4.stage (cfg0.slots t 4)
abbrev stg_5 (t : Fin cfg0.N) : Memref sig .tc .vmem S1x1x512 .i32 := win0_5.stage (cfg0.slots t 5)
abbrev stg_6 (t : Fin cfg0.N) : Memref sig .tc .vmem S1x1x512 .i32 := win0_6.stage (cfg0.slots t 6)
abbrev stg_7 (t : Fin cfg0.N) : Memref sig .tc .vmem S1x1x512 .f32 := win0_7.stage (cfg0.slots t 7)
abbrev stg_8 (t : Fin cfg0.N) : Memref sig .tc .vmem S1x1x512 .f32 := win0_8.stage (cfg0.slots t 8)
abbrev stg_9 (t : Fin cfg0.N) : Memref sig .tc .vmem S1x1x512 .f32 := win0_9.stage (cfg0.slots t 9)
abbrev stg_10 (t : Fin cfg0.N) : Memref sig .tc .vmem S1x1x512 .i32 := win0_10.stage (cfg0.slots t 10)
abbrev stg_11 (t : Fin cfg0.N) : Memref sig .tc .vmem S1x512x512 .f32 := win0_11.stage (cfg0.slots t 11)
abbrev stg_12 (t : Fin cfg0.N) : Memref sig .tc .vmem S1x512x512 .f32 := win0_12.stage (cfg0.slots t 12)

/-- What the body is called with at point `t`, -/
def callPre (c : Dev nD) (t : Fin cfg0.N) : sProp 𝕄 :=
  iprop((sortDat V c).Φ t.castSucc ∗ (sortDat V c).owesAt none t.castSucc
    ∗ (∃ d, owns (c : Thread nD τ) (stg_0 t) fullShare ((sortDat V c).before 0 t d))
    ∗ (∃ d, owns (c : Thread nD τ) (stg_1 t) fullShare ((sortDat V c).before 1 t d))
    ∗ (∃ d, owns (c : Thread nD τ) (stg_2 t) fullShare ((sortDat V c).before 2 t d))
    ∗ (∃ d, owns (c : Thread nD τ) (stg_3 t) fullShare ((sortDat V c).before 3 t d))
    ∗ (∃ d, owns (c : Thread nD τ) (stg_4 t) fullShare ((sortDat V c).before 4 t d))
    ∗ (∃ d, owns (c : Thread nD τ) (stg_5 t) fullShare ((sortDat V c).before 5 t d))
    ∗ (∃ d, owns (c : Thread nD τ) (stg_6 t) fullShare ((sortDat V c).before 6 t d))
    ∗ (∃ d, owns (c : Thread nD τ) (stg_7 t) fullShare ((sortDat V c).before 7 t d))
    ∗ (∃ d, owns (c : Thread nD τ) (stg_8 t) fullShare ((sortDat V c).before 8 t d))
    ∗ (∃ d, owns (c : Thread nD τ) (stg_9 t) fullShare ((sortDat V c).before 9 t d))
    ∗ (∃ d, owns (c : Thread nD τ) (stg_10 t) fullShare ((sortDat V c).before 10 t d))
    ∗ (∃ d, owns (c : Thread nD τ) (stg_11 t) fullShare ((sortDat V c).before 11 t d))
    ∗ (∃ d, owns (c : Thread nD τ) (stg_12 t) fullShare ((sortDat V c).before 12 t d)))

/-- and what it hands back. -/
def callPost (c : Dev nD) (t : Fin cfg0.N) : sProp 𝕄 :=
  iprop((sortDat V c).Φ t.succ ∗ (sortDat V c).owesAt none t.succ
    ∗ owns (c : Thread nD τ) (stg_0 t) fullShare ((sortDat V c).after 0 t)
    ∗ owns (c : Thread nD τ) (stg_1 t) fullShare ((sortDat V c).after 1 t)
    ∗ owns (c : Thread nD τ) (stg_2 t) fullShare ((sortDat V c).after 2 t)
    ∗ owns (c : Thread nD τ) (stg_3 t) fullShare ((sortDat V c).after 3 t)
    ∗ owns (c : Thread nD τ) (stg_4 t) fullShare ((sortDat V c).after 4 t)
    ∗ owns (c : Thread nD τ) (stg_5 t) fullShare ((sortDat V c).after 5 t)
    ∗ owns (c : Thread nD τ) (stg_6 t) fullShare ((sortDat V c).after 6 t)
    ∗ owns (c : Thread nD τ) (stg_7 t) fullShare ((sortDat V c).after 7 t)
    ∗ owns (c : Thread nD τ) (stg_8 t) fullShare ((sortDat V c).after 8 t)
    ∗ owns (c : Thread nD τ) (stg_9 t) fullShare ((sortDat V c).after 9 t)
    ∗ owns (c : Thread nD τ) (stg_10 t) fullShare ((sortDat V c).after 10 t)
    ∗ owns (c : Thread nD τ) (stg_11 t) fullShare ((sortDat V c).after 11 t)
    ∗ owns (c : Thread nD τ) (stg_12 t) fullShare ((sortDat V c).after 12 t))

set_option maxHeartbeats 1200000 in
theorem body_at (c : Dev nD) (t : Fin cfg0.N) :
    callPre V c t ⊢ wp frame (wpE (defs₀ (F := F)) 𝒱₀ c none) Set.univ (bodyAt0 t) (fun _ => callPost V c t) := by
  unfold callPre callPost bodyAt0
  simp only [before_0, before_1, before_2]
  rw [show (sortDat V c).Φ t.succ = (sortDat V c).Φ t.castSucc from rfl,
    show (sortDat V c).owesAt none t.succ = (sortDat V c).owesAt none t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sort_body c (grid0.coords t) _ _ _ _ _ _ _ _ _ _ _ _ _ _ _ _ _ _ _ _ _ _ _ _ _ _ (blockAt V c 0 t) (blockAt V c 1 t) (blockAt V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem row_at (t : Fin cfg0.N) : defs₀ (F := F) .tc cfg0.body (cfg0.bodyArgs t (cfg0.slots t)) = bodyAt0 t := by
  rfl

theorem sort_obligation (c : Dev nD) : BodyObligation (sortDat V c) (defs₀ (F := F)) 𝒱₀ none Set.univ := fun t => by
  rw [bigSep_W0, bigSep_W0, row_at]
  exact triple_restated (body_at V c t) rfl .rfl fun _ => .rfl

/-! ## The region's record -/

/-- The pipeline prefetches no table. -/
abbrev adm : (p : Fin 1) → (pcfgs (F := F) p).Adm := fun p => (cfgs p).toPCfg_adm

/-- The unscoped buffers after the region. -/
def afterSort (c : Dev nD) : Valuation τ sig (Elt F) := Pipeline.afterRegion (sortDat V c) (V c)

/-- What the TensorCore owes around the region: its start signals, with only waits at level zero recorded. -/
def owing (c : Dev nD) : sProp 𝕄 :=
  iprop(∃ W, ⌜(K (F := F)).WBelow (c.tc : Thread nD τ) W 0⌝ ∗ owes (c.tc : Thread nD τ) ((K (F := F)).Otc c 0) W)

theorem arrays_sub : Pipeline.arrRefs (τ := τ) spec0 ⊆ Pipeline.ucRefs τ sig := Pipeline.arrRefs_sub_ucRefs spec0 launch0.win.arr_unscoped

set_option maxHeartbeats 1000000 in
def sortSeg : Pipeline.RegionSeg (pcfgs (F := F)) adm (sortDats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (sort_obligation V c).loose
  hwaits c := Pipeline.cellsWaits_of_cut (Pipeline.pin (pcfgs (F := F)) adm) (sortDats V) none 0 c 0 ((K (F := F)).Otc c 0) (fun _ => rfl)
    (fun _ _ => Finset.mem_univ _) (fun _ _ => le_refl _)
    (fun g i h => ⟨Finset.mem_univ _, lt_of_lt_of_le (Nat.succ_pos _) (SparseCore.Cfg.lev_of_Otc_pos (K := K (F := F)) h)⟩)
  pre c := iprop(StableHlo.held (c.tc : Thread nD τ) (Pipeline.ucRefs τ sig) (V c) ∗ owing (F := F) c)
  post c := iprop(StableHlo.held (c.tc : Thread nD τ) (Pipeline.ucRefs τ sig) (afterSort V c) ∗ owing (F := F) c)
  X _ := BI.emp
  Y _ := BI.emp
  Z c := StableHlo.held (c.tc : Thread nD τ) (Pipeline.ucRefs τ sig \ Pipeline.arrRefs spec0) (V c)
  hentry c := by
    rw [Pipeline.ownSems0_none, Pipeline.prefHeld_of_none _ rfl,
      Pipeline.arrays_held (pcfgs (F := F)) adm (sortDats V) 0 launch0.toP c ((sortDat V c).share_full fun _ => rfl) ((sortDats V 0 c).arrAt · 0) (V c) (fun w => sortDat_A V c w),
      StableHlo.held_sub_split (c.tc : Thread nD τ) arrays_sub (V c)]
    unfold owing
    iintro ⟨⟨⟨Ha, Hr⟩, %W, %hW, HO⟩, -, -⟩
    imodintro
    isplitl [Ha]; · iexact Ha
    isplitr; · iempintro
    isplitl [HO]
    · unfold Dat.owesAt owesWithin Dat.bound
      iexists W; isplitr
      · ipureintro; exact fun p hp => Or.inl (hW p hp)
      iexact HO
    isplitr; · iempintro
    iexact Hr
  hin c := by
    rw [Pipeline.prefHeld_of_none _ rfl]
    show iprop(BI.emp ∗ BI.emp ∗ Pipeline.scopedRest spec0 c) ⊢ BI.emp
    rw [scopedRest0_eq]
    iintro ⟨-, -, H⟩; iexact H
  hout c := by
    rw [Pipeline.ownSems0_none]
    show BI.emp ⊢ iprop(BI.emp ∗ BI.emp ∗ Pipeline.scopedRest spec0 c)
    rw [scopedRest0_eq]
    iintro H
    isplitr; · iempintro
    isplitr; · iempintro
    iexact H
  hexit c := by
    rw [Pipeline.arrays_held (pcfgs (F := F)) adm (sortDats V) 0 launch0.toP c ((sortDat V c).share_full fun _ => rfl) ((sortDats V 0 c).arrAt · cfg0.N) (afterSort V c)
        (fun w => (Pipeline.afterRegion_arr (sortDat V c) (V c) launch0.win.arr_inj w).symm),
      StableHlo.held_sub_split (c.tc : Thread nD τ) arrays_sub (afterSort V c),
      StableHlo.held_congr (c.tc : Thread nD τ) (S := Pipeline.ucRefs τ sig \ Pipeline.arrRefs spec0) (V := afterSort V c) (V' := V c)
        (Pipeline.afterRegion_off (sortDat V c) (V c) _)]
    unfold Dat.owesAt owesWithin Dat.bound owing
    iintro ⟨Ha, ⟨%W, %hW, HO⟩, -, Hr⟩
    imodintro
    isplitl [Ha Hr]
    · isplitl [Ha]; · iexact Ha
      iexact Hr
    iexists W; isplitr
    · ipureintro
      intro p hp
      rcases hW hp with h | ⟨w, s, rfl⟩
      · exact h
      · exact le_refl _
    iexact HO

end Cert.GoldSpans

end
-- ==== Proof.Gather.lean ====
/-
  The SparseCore gather, at a symbolic tile, over arbitrary contents.

  Thirty-two tiles (two cores of sixteen) work at once. Tile (c, s) takes rows 128·(2s + c) … of the list of row numbers,
  fetches that stretch into its own memory, streams the named rows of the table into its row buffer, and writes that
  buffer out to the same stretch of the result. What is carried is the VALUE: the stretch of the result ends at
  `gathered` of the table and the list, whatever they hold, provided every word of the list names a row of the table.
-/
module

public import proofs.«01_k».proof.Proof.Launch

@[expose] public section

noncomputable section

namespace Cert.GoldSpans

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S262144x128 EltTy.f32)
local notation "nV" => (Memref.whole Cert.KernelIdeal.main_v3_scv : Memref Cert.KernelIdeal.sig Kind.scVector Space.hbm Cert.KernelIdeal.S4096 EltTy.i32)
local notation "gV" => (Memref.whole Cert.KernelIdeal.main_v4_scv : Memref Cert.KernelIdeal.sig Kind.scVector Space.hbm Cert.KernelIdeal.S4096x128 EltTy.f32)
local notation "lV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

/-! ## Thirty-two stretches -/

theorem n_div : 32 ∣ S4096.size 0 := ⟨128, rfl⟩
theorem g_div : 32 ∣ S4096x128.size 0 := ⟨128, rfl⟩
/-- Stretch `r` of the list, of 128 words. -/
abbrev nPart (r : Fin 32) : Rect S4096 := Rect.part (s := S4096) (a₀ := 0) n_div r
/-- Stretch `r` of the result, of 128 rows. -/
abbrev gPart (r : Fin 32) : Rect S4096x128 := Rect.part (s := S4096x128) (a₀ := 0) g_div r
abbrev nSet (r : Fin 32) : Finset S4096.Idx := ((nV).view.slice (nPart r)).set
abbrev gSet (r : Fin 32) : Finset S4096x128.Idx := ((gV).view.slice (gPart r)).set

/-- The stretch of subcore `s` of core `c`. -/
def wid (c : Fin 2) (s : Fin 16) : Fin 32 := ⟨2 * s.val + c.val, by omega⟩

/-- Stretches are pairs of a core and a subcore. -/
def widEquiv : Fin 2 × Fin 16 ≃ Fin 32 where
  toFun p := wid p.1 p.2
  invFun r := (⟨r.val % 2, Nat.mod_lt _ (by decide)⟩, ⟨r.val / 2, by omega⟩)
  left_inv p := by
    refine Prod.ext (Fin.ext ?_) (Fin.ext ?_) <;> simp only [wid] <;> omega
  right_inv r := by refine Fin.ext ?_; simp only [wid]; omega

/-- Stretch `r`'s share of the table. -/
abbrev tShare (r : Fin 32) : PosShare TreeShare := pieceOf fullShare 32 (by decide) r

variable [FloatOps F]

/-- The table, the list and what the result held before the call, on each device. -/
structure Held (F : FTy → Type) where
  tab : (d : Dev nD) → Buf (Elt F) (tLoc d)
  num : (d : Dev nD) → Buf (Elt F) (nLoc d)
  old : (d : Dev nD) → Buf (Elt F) (gLoc d)

variable (h : Held F)

/-- Every word of the list names a row of the table. -/
def Held.InRange : Prop := ∀ (d : Dev nD) (j : S4096.Idx), (h.num d j : BitVec 32).toNat < 262144

/-! ## What the call's handshakes carry -/

abbrev nPts (d : Dev nD) (r : Fin 32) : sProp 𝕄 := nLoc d ↦[nSet r]{fullShare} h.num d
abbrev tPts (d : Dev nD) (r : Fin 32) : sProp 𝕄 := tLoc d ↦{tShare r} h.tab d
abbrev gPts (d : Dev nD) (r : Fin 32) (f : Buf (Elt F) (gLoc d)) : sProp 𝕄 := gLoc d ↦[gSet r]{fullShare} f
/-- The result's contents after the call. -/
abbrev new (d : Dev nD) : Buf (Elt F) (gLoc d) := gathered (h.tab d) (h.num d)

/-- What tile `r` is given, -/
abbrev given (d : Dev nD) (r : Fin 32) : sProp 𝕄 := iprop(nPts h d r ∗ tPts h d r ∗ gPts d r (h.old d))
/-- and what it brings back: the same, its stretch of the result holding the gathered rows. -/
abbrev back (d : Dev nD) (r : Fin 32) : sProp 𝕄 := iprop(nPts h d r ∗ tPts h d r ∗ gPts d r (new h d))

/-- The call's messages: to a tile its stretch and its share of the table; to a core its sixteen tiles' parts. -/
def P : (K (F := F)).Pay (nD := nD) (Val := Elt F) (Name := ℕ) (U := UU) where
  st := fun q d c => match q with | 0 => bigSep Finset.univ fun s : Fin 16 => given h d (wid (Fin.cast nCore_eq c) s)
  dn := fun q d c => match q with | 0 => bigSep Finset.univ fun s : Fin 16 => back h d (wid (Fin.cast nCore_eq c) s)
  go := fun q d c i => match q with | 0 => given h d (wid (Fin.cast nCore_eq c) (Fin.cast nSub_eq i))
  td := fun q d c i => match q with | 0 => back h d (wid (Fin.cast nCore_eq c) (Fin.cast nSub_eq i))
  x := fun _ _ => iprop(emp)

instance P_storable : (P (F := F) h).IsStorable where
  st q d c := match q with
    | 0 => (inferInstance : BI.Storable (upEmb : UEmb _ 𝕄) (bigSep Finset.univ fun s : Fin 16 => given h d (wid (Fin.cast nCore_eq c) s)))
  dn q d c := match q with
    | 0 => (inferInstance : BI.Storable (upEmb : UEmb _ 𝕄) (bigSep Finset.univ fun s : Fin 16 => back h d (wid (Fin.cast nCore_eq c) s)))
  go q d c i := match q with
    | 0 => (inferInstance : BI.Storable (upEmb : UEmb _ 𝕄) (given h d (wid (Fin.cast nCore_eq c) (Fin.cast nSub_eq i))))
  td q d c i := match q with
    | 0 => (inferInstance : BI.Storable (upEmb : UEmb _ 𝕄) (back h d (wid (Fin.cast nCore_eq c) (Fin.cast nSub_eq i))))

/-! ## The tile's views -/

section Tile

variable (d : Dev nD) (L : grid1.Coords)

abbrev cV (L : grid1.Coords) : Fin τ.nSC := (L 0).castLE hcore1
abbrev sV (L : grid1.Coords) : Fin τ.nSub := (L 1).castLE hsub1
/-- The thread of the tile at coordinates `L`. -/
abbrev thr (d : Dev nD) (L : grid1.Coords) : Thread nD τ := V d (cV L) (sV L)
abbrev rL (L : grid1.Coords) : Fin 32 := wid ⟨(L 0).val, (L 0).isLt⟩ ⟨(L 1).val, (L 1).isLt⟩

abbrev nRectK (L : grid1.Coords) : Rect S4096 := Rect.unit (s := S4096) (k1_off1 L) S128.size (k1_off1_inb L)
abbrev gRectK (L : grid1.Coords) : Rect S4096x128 := Rect.unit (s := S4096x128) (k1_off2 L) S128x128.size (k1_off2_inb L)
/-- The tile's stretch of the list and of the result, and the whole table, as the kernel addresses them. -/
abbrev nK (L : grid1.Coords) : Memref sig .scVector .hbm S128 .i32 := (nV).slice (nRectK L) (fun _ => rfl)
abbrev gK (L : grid1.Coords) : Memref sig .scVector .hbm S128x128 .f32 := (gV).slice (gRectK L) (fun _ => rfl)
abbrev tK : Memref sig .scVector .hbm S262144x128 .f32 := (tV).slice (Rect.unit (s := S262144x128) ![0, 0] S262144x128.size inb_S262144x128_S262144x128_0_0) (fun _ => rfl)

omit [FloatOps F] in
theorem nRectK_eq : nRectK L = nPart (rL L) := by
  unfold nRectK nPart Rect.part Rect.block
  congr 1 <;> funext a
  · rw [k1_off1_eq]
    match a with
    | 0 => simp [Shape.partIx, Shape.partSize, wid]; omega
  · match a with
    | 0 => simp [Shape.partSize]
omit [FloatOps F] in
theorem gRectK_eq : gRectK L = gPart (rL L) := by
  unfold gRectK gPart Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_nK : (nK L).view.set = nSet (rL L) := by
  show ((nV).view.slice (nRectK L)).set = ((nV).view.slice (nPart (rL L))).set
  exact nRectK_eq L ▸ rfl
omit [FloatOps F] in
theorem set_gK : (gK L).view.set = gSet (rL L) := by
  show ((gV).view.slice (gRectK L)).set = ((gV).view.slice (gPart (rL L))).set
  exact gRectK_eq L ▸ rfl

omit [FloatOps F] in
theorem pts_nK (f : Buf (Elt F) (nLoc d)) :
    ((nK L).view.loc (thr d L) ↦[(nK L).view.set]{fullShare} f : sProp 𝕄) = nLoc d ↦[nSet (rL L)]{fullShare} f := by
  rw [set_nK]
omit [FloatOps F] in
theorem pts_gK (f : Buf (Elt F) (gLoc d)) :
    ((gK L).view.loc (thr d L) ↦[(gK L).view.set]{fullShare} f : sProp 𝕄) = gLoc d ↦[gSet (rL L)]{fullShare} f := by
  rw [set_gK]
omit [FloatOps F] in
theorem pts_tV (q : PosShare TreeShare) (f : Buf (Elt F) (tLoc d)) :
    ((tV).view.loc (thr d L) ↦{q} f : sProp 𝕄) = tLoc d ↦{q} f := rfl
omit [FloatOps F] in
theorem pts_lV (f : Buf (Elt F) ((thr d L).loc cc1_scratch0)) :
    ((lV).view.loc (thr d L) ↦{fullShare} f : sProp 𝕄) = (thr d L).loc cc1_scratch0 ↦{fullShare} f := rfl
omit [FloatOps F] in
theorem pts_rV (f : Buf (Elt F) ((thr d L).loc cc1_scratch1)) :
    ((rV).view.loc (thr d L) ↦{fullShare} f : sProp 𝕄) = (thr d L).loc cc1_scratch1 ↦{fullShare} f := rfl

/-! ## The tile's own semaphores and buffers -/

/-- The three semaphores: of the fetch of the list, of the stream, of the write-out. -/
abbrev cellA (d : Dev nD) (L : grid1.Coords) : GSem nD τ sig := (thr d L, .dma cc1_scoped0.sem)
abbrev cellB (d : Dev nD) (L : grid1.Coords) : GSem nD τ sig := (thr d L, .dma cc1_scratch2.sem)
abbrev cellC (d : Dev nD) (L : grid1.Coords) : GSem nD τ sig := (thr d L, .dma cc1_scoped1.sem)

omit [FloatOps F] in
theorem ownSems0_thr :
    (ownSems0 (thr d L) : sProp 𝕄)
      = iprop(semVal (cellA d L) 0 ∗ semVal (cellB d L) 0 ∗ semVal (cellC d L) 0
          ∗ bigSep ((((ownCells (thr d L)).erase (cellA d L)).erase (cellB d L)).erase (cellC d L)) fun g => semVal g 0) := by
  have hA : cellA d L ∈ ownCells (thr d L) := mem_ownCells.mpr ⟨rfl, by
    show (SemLoc.dma cc1_scoped0.sem : SemLoc sig).isScoped .scVector = true; decide⟩
  have hB : cellB d L ∈ ownCells (thr d L) := mem_ownCells.mpr ⟨rfl, by
    show (SemLoc.dma cc1_scratch2.sem : SemLoc sig).isScoped .scVector = true; decide⟩
  have hC : cellC d L ∈ ownCells (thr d L) := mem_ownCells.mpr ⟨rfl, by
    show (SemLoc.dma cc1_scoped1.sem : SemLoc sig).isScoped .scVector = true; decide⟩
  have hBA : cellB d L ≠ cellA d L := by simp [cellA, cellB]; decide
  have hCA : cellC d L ≠ cellA d L := by simp [cellA, cellC]; decide
  have hCB : cellC d L ≠ cellB d L := by simp [cellB, cellC]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

omit [FloatOps F] in
theorem ownBufs_thr :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (sV L))).erase ((Proc.scVector (cV L) (sV L)).devRef cc1_scratch0)).erase
              ((Proc.scVector (cV L) (sV L)).devRef cc1_scratch1))
              fun b => iprop(∃ f, ((d, b) : Loc nD τ sig) ↦{fullShare} f)) := by
  have h0 := SparseCore.Cfg.mem_ownRefs_of_owner (p := Proc.scVector (cV L) (sV L)) (b := (Proc.scVector (cV L) (sV L)).devRef cc1_scratch0) rfl
  have h1 := SparseCore.Cfg.mem_ownRefs_of_owner (p := Proc.scVector (cV L) (sV L)) (b := (Proc.scVector (cV L) (sV L)).devRef cc1_scratch1) rfl
  have h10 : (Proc.scVector (cV L) (sV L)).devRef cc1_scratch1 ≠ (Proc.scVector (cV L) (sV L)).devRef cc1_scratch0 :=
    fun e => absurd (Proc.devRef_injective _ e) (show (cc1_scratch1 : Ref sig .scVector) ≠ cc1_scratch0 by decide)
  unfold SparseCore.Cfg.ownBufs
  refine (SparseCore.bigSep_erase' h0).trans ?_
  rw [SparseCore.bigSep_erase' (Finset.mem_erase.mpr ⟨h10, h1⟩)]

/-! ## The values -/

/-- The stretch of the list that the tile fetches. -/
abbrev listOf : S128.Idx → Elt F .i32 := (nK L).view.read (Elt F) (h.num d)

/-- The stream's offsets are in range: the fetched stretch's words are the list's. -/
theorem fetched_in_range (hin : h.InRange) (fs : Buf (Elt F) ((thr d L).loc cc1_scratch0)) (pay : S128.Idx → Elt F .i32) (hpay : pay = listOf h d L) :
    ∀ x, ((lV).view.read (Elt F) (View.write (Elt F) (lV).view fs pay Finset.univ) x).toNat < S262144x128.size gathers_S262144x128_S128x128.axis := by
  subst hpay; intro x
  rw [View.write_whole_univ]
  simp only [Memref.view_whole, View.read_whole]
  rw [show ∀ j, listOf h d L j = h.num d ((nK L).view.emb j) from fun j => (View.read_apply _ _).trans (cast_eq _ _)]
  exact hin d _

end Tile

end Cert.GoldSpans

end
-- ==== Proof.Tile.lean ====
/-
  One tile's run: the fetch of its stretch of the list, the stream of the named rows, the write-out.
-/
module

public import proofs.«01_k».proof.Proof.Gather

@[expose] public section

noncomputable section

namespace Cert.GoldSpans

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S262144x128 EltTy.f32)
local notation "nV" => (Memref.whole Cert.KernelIdeal.main_v3_scv : Memref Cert.KernelIdeal.sig Kind.scVector Space.hbm Cert.KernelIdeal.S4096 EltTy.i32)
local notation "gV" => (Memref.whole Cert.KernelIdeal.main_v4_scv : Memref Cert.KernelIdeal.sig Kind.scVector Space.hbm Cert.KernelIdeal.S4096x128 EltTy.f32)
local notation "lV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

variable [FloatOps F] (h : Held F) (d : Dev nD) (L : grid1.Coords)

omit [FloatOps F] in
theorem emb_gK (x : S128x128.Idx) : (gK L).view.emb x = ix2 ⟨256 * (L 1).val + 128 * (L 0).val + (x 0).val, by
    have h1 : (L 1).val < 16 := (L 1).isLt
    have h0 : (L 0).val < 2 := (L 0).isLt
    have hx : (x 0).val < 128 := (x 0).isLt
    omega⟩ (x 1) := by
  funext a
  refine Fin.ext ?_
  show (k1_off2 L a + 1 * (x a).val : ℕ) = _
  rw [k1_off2_eq]
  match a with
  | 0 => simp; rfl
  | 1 => simp; rfl
omit [FloatOps F] in
theorem emb_nK (x : S128.Idx) : (nK L).view.emb x = ix1 ⟨256 * (L 1).val + 128 * (L 0).val + (x 0).val, by
    have h1 : (L 1).val < 16 := (L 1).isLt
    have h0 : (L 0).val < 2 := (L 0).isLt
    have hx : (x 0).val < 128 := (x 0).isLt
    omega⟩ := by
  funext a
  refine Fin.ext ?_
  show (k1_off1 L a + 1 * (x a).val : ℕ) = _
  rw [k1_off1_eq]
  match a with
  | 0 => simp; rfl
omit [FloatOps F] in
theorem emb_tK (x : S262144x128.Idx) : (tK).view.emb x = x := by
  funext a
  refine Fin.ext ?_
  show ((![0, 0] : Fin 2 → ℕ) a + 1 * (x a).val : ℕ) = _
  match a with
  | 0 => simp
  | 1 => simp
omit [FloatOps F] in
/-- Entry `k` of a list of 128 in row-major order is entry `k`. -/
theorem list_entry (k : Fin S128.numel) : ((S128.rowMajor.symm k) 0).val = k.val := by
  obtain ⟨x, rfl⟩ := S128.rowMajor.surjective k
  rw [Equiv.symm_apply_apply]
  show _ = ((Shape.rowMajorPi (![128] : Fin 1 → ℕ) x : Fin _) : ℕ)
  rw [Shape.rowMajorPi_succ_val]
  have hz := (Shape.rowMajorPi (fun a : Fin 0 => (![128] : Fin 1 → ℕ) a.succ) fun a => x a.succ).isLt
  simp at hz ⊢
  omega

/-- What the write-out leaves in the tile's stretch of the result is `gathered`'s rows there. -/
theorem landed_eq (hin : h.InRange) (f : Buf (Elt F) (gLoc d)) (fs : Buf (Elt F) ((thr d L).loc cc1_scratch0))
    (pay : S128x128.Idx → Elt F .f32)
    (hpay : pay = SparseCore.gatherPayload gathers_S262144x128_S128x128 (tK.view.read (Elt F) (h.tab d))
      (SparseCore.rows ((lV).view.read (Elt F) (View.write (Elt F) (lV).view fs (listOf h d L) Finset.univ)) rfl
        (fetched_in_range h d L hin fs _ rfl))) :
    ∀ i ∈ (gK L).view.set, (gK L).view.writes (Elt F) f [⟨Rect.whole S128x128, pay⟩] i = new h d i := by
  subst hpay
  intro i hi
  obtain ⟨x, -, rfl⟩ := Finset.mem_map.mp hi
  trans (SparseCore.gatherPayload gathers_S262144x128_S128x128 (tK.view.read (Elt F) (h.tab d))
      (SparseCore.rows ((lV).view.read (Elt F) (View.write (Elt F) (lV).view fs (listOf h d L) Finset.univ)) rfl
        (fetched_in_range h d L hin fs _ rfl)) x)
  · generalize SparseCore.gatherPayload _ _ _ = pay
    have e : ((gK L).view.slice (Rect.whole S128x128)).emb x = (gK L).view.emb x := by
      show (gK L).view.emb ((Rect.whole S128x128).emb x) = _
      rw [Rect.emb_whole_apply]
    show View.write (Elt F) ((gK L).view.slice (Rect.whole S128x128)) f pay Finset.univ ((gK L).view.emb x) = pay x
    rw [← e, View.write_emb_of_mem _ _ (Finset.mem_univ x)]
    rfl
  unfold SparseCore.gatherPayload new gathered
  rw [View.read_apply, cast_eq, emb_tK]
  refine congrArg (h.tab d) ?_
  funext a
  refine Fin.ext ?_
  match a with
  | 0 =>
    refine (congrArg Fin.val (Shape.Gathers.idx_axis gathers_S262144x128_S128x128 _ x)).trans ?_
    have hlist : ∀ j, (lV).view.read (Elt F) (View.write (Elt F) (lV).view fs (listOf h d L) Finset.univ) j = h.num d ((nK L).view.emb j) := by
      intro j
      rw [View.read_write_univ]
      exact (View.read_apply _ _).trans (cast_eq _ _)
    unfold SparseCore.rows
    change _ = (h.num d (ix1 ((gK L).view.emb x 0)) : BitVec 32).toNat % 262144
    rw [emb_gK]
    simp only [hlist]
    refine Eq.trans (congrArg (fun j => (h.num d j : BitVec 32).toNat) (?_ : _ = ix1 ⟨256 * (L 1).val + 128 * (L 0).val + (x 0).val, _⟩))
      (Nat.mod_eq_of_lt (hin d _)).symm
    refine (emb_nK L _).trans (congrArg ix1 (Fin.ext ?_))
    show 256 * (L 1).val + 128 * (L 0).val + ((S128.rowMajor.symm _) 0).val = _
    rw [list_entry]
    rfl
  | 1 =>
    refine (Shape.Gathers.idx_of_ne gathers_S262144x128_S128x128 _ x 1 (by decide)).trans ?_
    rw [emb_gK]
    rfl

set_option maxHeartbeats 600000 in
/-- The task of the tile at `L`: from its stretch of the list, its share of the table and its stretch of the result, to the same
    with the result's stretch holding the gathered rows. -/
theorem tile_body (hF : (K (F := F)).Facts) (hin : h.InRange) (O : CellTallies nD τ sig (HIx 1)) (W : Waits sig (HIx 1)) (hO : ∀ g, O g none = 0) :
    iprop(levAts (K (F := F)).L (K (F := F)).lev ∗ emp ∗ given h d (rL L)
        ∗ scopedBufs (thr d L) ∗ scopedSems0 (thr d L) ∗ owes (thr d L) O W)
      ⊢ wp frame (wpE (defs₀ (F := F)) 𝒱₀ (thr d L) none) Set.univ
          (cc1__sc_gather L tV (Memref.isWhole_whole _) nV (Memref.isWhole_whole _) gV (Memref.isWhole_whole _)
            lV (Memref.isWhole_whole _) rV (Memref.isWhole_whole _) cc1_scratch2 cc1_scoped0 cc1_scoped1)
          fun _ => iprop(back h d (rL L)
            ∗ scopedBufs (thr d L) ∗ scopedSems0 (thr d L)
            ∗ ∃ W', ⌜∀ p ∈ W', p ∈ W ∨ p.2 = none⌝ ∗ owes (thr d L) O W') := by
  simp only [cc1__sc_gather_eq_skeleton]; unfold cc1__sc_gather_skel
  rw [(K (F := F)).scopedBufs_V hF d (cV L) (sV L), SparseCore.Cfg.scopedSems0_V (Val := Elt F) d (cV L) (sV L), ownSems0_thr, ownBufs_thr]
  iintro ⟨#Hlv, -, ⟨Hn, Ht, Hg⟩, ⟨⟨%fs, Hl⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Hn' := (Entails.of_eq (pts_nK (F := F) d L _).symm) $$ Hn
  ihave Hg' := (Entails.of_eq (pts_gK (F := F) d L _).symm) $$ Hg
  ihave Ht' := (Entails.of_eq (pts_tV (F := F) d L _ _).symm) $$ Ht
  ihave Hl' := (Entails.of_eq (pts_lV (F := F) d L _).symm) $$ Hl
  ihave Hr' := (Entails.of_eq (pts_rV (F := F) d L _).symm) $$ Hr
  sl_exec
  -- the stream: it reads through a share of the table at its own elements, and takes the list's buffer whole
  ihave Hts := (pointsTo_split_subset (q := tShare (rL L)) (f := h.tab d) (S := Finset.univ) (Finset.subset_univ (tK).view.set)).1 $$ Ht'
  icases Hts with ⟨Hts, Htr⟩
  have hrs : (rV).view.set = Finset.univ := View.set_whole _
  have hls : (lV).view.set = Finset.univ := View.set_whole _
  ihave Hr'' := (Entails.of_eq (show ((rV).view.loc (thr d L) ↦{fullShare} fr : sProp 𝕄)
      = (rV).view.loc (thr d L) ↦[(rV).view.set]{fullShare} fr by rw [hrs])) $$ Hr'
  ihave Hl'' := (Entails.of_eq (show ((lV).view.loc (thr d L) ↦{fullShare} View.write (Elt F) (lV).view fs (tile_body.sl.dma0 h d L) Finset.univ : sProp 𝕄)
      = (lV).view.loc (thr d L) ↦[(lV).view.set]{fullShare} View.write (Elt F) (lV).view fs (tile_body.sl.dma0 h d L) Finset.univ
      by rw [hls])) $$ Hl'
  have hN : ∀ h : S262144x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (thr d L) none (hg := gathers_S262144x128_S128x128) (default : HIx 1)
      (rV).view.dmaCredit (hN _) (by decide) (fetched_in_range h d L hin fs _ rfl)) $$ [Hts Hr'' Hl'' HsemB]
  · isplitl [Hts]; · iexact Hts
    isplitl [Hr'']; · iexact Hr''
    isplitl [Hl'']; · iexact Hl''
    iexact HsemB
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hl'⟩, HsemB, HO⟩
  ihave Ht' := (pointsTo_split_subset (q := tShare (rL L)) (f := h.tab d) (S := Finset.univ) (Finset.subset_univ (tK).view.set)).2 $$ [Hts Htr]; · isplitl [Hts] <;> iassumption
  ihave Hr3 := (Entails.of_eq (show ((rV).view.loc (thr d L) ↦[(rV).view.set]{fullShare} _ : sProp 𝕄)
      = (rV).view.loc (thr d L) ↦{fullShare} _ by rw [hrs])) $$ Hr'
  ihave Hl3 := (Entails.of_eq (show ((lV).view.loc (thr d L) ↦[(lV).view.set]{fullShare} _ : sProp 𝕄)
      = (lV).view.loc (thr d L) ↦{fullShare} _ by rw [hls])) $$ Hl'
  sl_exec
  have hval := landed_eq h d L hin (h.old d) fs (tile_body.sl.dma0_1 h d L hin fs fr) (View.read_write_univ _ _)
  ihave Hg2 := (Entails.of_eq (pointsTo_congr hval)) $$ Hg'
  sl_step
  isplitl [Hn' Ht' Hg2]
  · isplitl [Hn']; · iapply (Entails.of_eq (pts_nK (F := F) d L _)); iexact Hn'
    isplitl [Ht']; · iexact Ht'
    iapply (Entails.of_eq (pts_gK (F := F) d L _))
    iexact Hg2
  isplitl [Hl3 Hr3 Hbufs]
  · isplitl [Hl3]; · iexists _; iexact Hl3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The coordinates of a core and a subcore. -/
def coordsOf (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsOf c s)
          tV (Memref.isWhole_whole _) nV (Memref.isWhole_whole _) gV (Memref.isWhole_whole _)
          lV (Memref.isWhole_whole _) rV (Memref.isWhole_whole _) cc1_scratch2 cc1_scoped0 cc1_scoped1) ⟨⟩ c s := rfl

omit [FloatOps F] in
theorem widen_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : h.InRange) : (K (F := F)).TileObl (D (F := F)) 𝒱 (P h) v₀ 0 := by
  intro d c i O W hO _ _
  simp only [show (P h).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body h d (coordsOf ⟨_, hci.1⟩ ⟨_, hci.2⟩) hF hin O W hO).trans (wp_mono frame _ _ fun _ => widen_waits)

/-- A core's part is its sixteen tiles' parts, so handing on and collecting are the identity. -/
theorem vecSplit : (K (F := F)).VecSplit' (P h) 0 := by
  intro d c
  show (bigSep Finset.univ fun s : Fin 16 => given h d (wid (Fin.cast nCore_eq c) s)) ⊢ |={Set.univ}=> iprop(
      (bigSep Finset.univ fun i : Fin ((K (F := F)).nSub 0) => given h d (wid (Fin.cast nCore_eq c) (Fin.cast nSub_eq i)))
      ∗ ((bigSep Finset.univ fun i : Fin ((K (F := F)).nSub 0) => back h d (wid (Fin.cast nCore_eq c) (Fin.cast nSub_eq i)))
          -∗ (bigSep Finset.univ fun s : Fin 16 => back h d (wid (Fin.cast nCore_eq c) s))))
  iintro H; imodintro
  isplitl [H]; · iexact H
  iintro H; iexact H

end Cert.GoldSpans

end
-- ==== Proof.Main.lean ====
/-
  The whole program: the transposition, the sort's region on the TensorCore, the two reshapes that prepare the gather,
  the gather's call, and the reshapes that lay out the results. The TensorCore's unscoped buffers are held at a
  valuation all along; the run ends with every one of them at `V5`.
-/
module

public import proofs.«01_k».proof.Proof.Region
public import proofs.«01_k».proof.Proof.Tile

@[expose] public section

set_option maxRecDepth 16384

noncomputable section

namespace Cert.GoldSpans

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The gather's table, its list and its result. -/
abbrev rT : DevRef τ sig := Proc.devRef .tc main_v2
abbrev rN : DevRef τ sig := Proc.devRef .tc main_v3
abbrev rG : DevRef τ sig := Proc.devRef .tc main_v4

/-! ## The host operations and the valuations between them -/

abbrev opSwap : HloOp τ sig (Elt F) :=
  StableHlo.unary main_arg4 main_v0 ((transpose S8x2x512 [0, 2, 1] · transposes_S8x512x2_S8x2x512_0_2_1) : (⟨S8x512x2, .i32⟩ : BufTy).Contents (Elt F) → (⟨S8x2x512, .i32⟩ : BufTy).Contents (Elt F))
abbrev opTable : HloOp τ sig (Elt F) := StableHlo.reshape main_arg0 main_v2 (rfl : (.f32 : EltTy) = .f32) shapeCasts_S8x2048x16x128_S262144x128
abbrev opList : HloOp τ sig (Elt F) := StableHlo.reshape main_v1_7 main_v3 (rfl : (.i32 : EltTy) = .i32) shapeCasts_S8x1x512_S4096
abbrev op5 : HloOp τ sig (Elt F) := StableHlo.reshape main_v4 main_v5 (rfl : (.f32 : EltTy) = .f32) shapeCasts_S4096x128_S8x512x128
abbrev op6 : HloOp τ sig (Elt F) := StableHlo.reshape main_v1_6 main_v6 (rfl : (.f32 : EltTy) = .f32) shapeCasts_S8x1x512_S8x512x1
abbrev op7 : HloOp τ sig (Elt F) := StableHlo.reshape main_v1_4 main_v7 (rfl : (.f32 : EltTy) = .f32) shapeCasts_S8x1x512_S8x512x1
abbrev op8 : HloOp τ sig (Elt F) := StableHlo.reshape main_v1_5 main_v8 (rfl : (.f32 : EltTy) = .f32) shapeCasts_S8x1x512_S8x512x1
abbrev op9 : HloOp τ sig (Elt F) := StableHlo.reshape main_v1_2 main_v9 (rfl : (.i32 : EltTy) = .i32) shapeCasts_S8x1x512_S8x512
abbrev op10 : HloOp τ sig (Elt F) := StableHlo.reshape main_v1_3 main_v10 (rfl : (.i32 : EltTy) = .i32) shapeCasts_S8x1x512_S8x512
abbrev op11 : HloOp τ sig (Elt F) := StableHlo.reshape main_v1_0 main_v11 (rfl : (.i32 : EltTy) = .i32) shapeCasts_S8x1x512_S8x512
abbrev op12 : HloOp τ sig (Elt F) := StableHlo.reshape main_v1_1 main_v12 (rfl : (.i32 : EltTy) = .i32) shapeCasts_S8x1x512_S8x512

variable (m : (ℓ : Loc nD τ sig) → Buf (Elt F) ℓ) (ρ : Dev nD → PrngReg)

/-- At the launch, -/
abbrev V0 (d : Dev nD) : Valuation τ sig (Elt F) := fun b => m (d, b)
/-- with the gold spans transposed, -/
def V1 (d : Dev nD) : Valuation τ sig (Elt F) := (opSwap (F := F)).result (V0 m d)
/-- after the sort, -/
def V2 (d : Dev nD) : Valuation τ sig (Elt F) := afterSort (V1 m) d
/-- with the gather's table and list laid out, -/
def V3 (d : Dev nD) : Valuation τ sig (Elt F) := (opList (F := F)).result ((opTable (F := F)).result (V2 m d))

/-- What the gather starts from. -/
def held0 : Held F where
  tab d := V3 m d rT
  num d := V3 m d rN
  old d := V3 m d rG

open Classical in
/-- After the gather, -/
def V4 (d : Dev nD) : Valuation τ sig (Elt F) :=
  Function.update (V3 m d) rG (new (held0 m) d)
/-- and with the results laid out. -/
def V5 (d : Dev nD) : Valuation τ sig (Elt F) :=
  (op12 (F := F)).result ((op11 (F := F)).result ((op10 (F := F)).result ((op9 (F := F)).result
    ((op8 (F := F)).result ((op7 (F := F)).result ((op6 (F := F)).result ((op5 (F := F)).result (V4 m d))))))))

/-! ## The gather's buffers split among the thirty-two tiles and join again -/

omit [FloatOps F] in
theorem nSet_part (r : Fin 32) : nSet r = (nPart r).set := by
  unfold nSet; rw [View.set_slice]; exact Finset.map_refl
omit [FloatOps F] in
theorem gSet_part (r : Fin 32) : gSet r = (gPart r).set := by
  unfold gSet; rw [View.set_slice]; exact Finset.map_refl

omit [FloatOps F] in
theorem nPts_all (d : Dev nD) (f : Buf (Elt F) (nLoc d)) :
    (nLoc d ↦{fullShare} f : sProp 𝕄) = bigSep Finset.univ fun r : Fin 32 => nLoc d ↦[nSet r]{fullShare} f := by
  rw [← pointsTo_biUnion Finset.univ (ℓ := nLoc d) nSet (fun i _ j _ h => by rw [nSet_part, nSet_part]; exact Rect.part_disjoint n_div h),
    (Finset.biUnion_congr rfl fun i _ => nSet_part i).trans (Rect.biUnion_part n_div)]
omit [FloatOps F] in
theorem gPts_all (d : Dev nD) (f : Buf (Elt F) (gLoc d)) :
    (gLoc d ↦{fullShare} f : sProp 𝕄) = bigSep Finset.univ fun r : Fin 32 => gLoc d ↦[gSet r]{fullShare} f := by
  rw [← pointsTo_biUnion Finset.univ (ℓ := gLoc d) gSet (fun i _ j _ h => by rw [gSet_part, gSet_part]; exact Rect.part_disjoint g_div h),
    (Finset.biUnion_congr rfl fun i _ => gSet_part i).trans (Rect.biUnion_part g_div)]
omit [FloatOps F] in
theorem tPts_all (d : Dev nD) (f : Buf (Elt F) (tLoc d)) :
    (tLoc d ↦{fullShare} f : sProp 𝕄) = bigSep Finset.univ fun r : Fin 32 => tLoc d ↦{tShare r} f :=
  pointsTo_piecesOf Finset.univ f (by decide) fullShare

omit [FloatOps F] in
/-- A family over the stretches, grouped by core. -/
theorem bigSep_cores (Φ : Fin 32 → sProp 𝕄) :
    (bigSep Finset.univ fun c : Fin ((K (F := F)).nCore 0) => bigSep Finset.univ fun s : Fin 16 => Φ (wid (Fin.cast nCore_eq c) s)) = bigSep Finset.univ Φ := by
  have h1 : (bigSep Finset.univ fun c : Fin ((K (F := F)).nCore 0) => bigSep Finset.univ fun s : Fin 16 => Φ (wid (Fin.cast nCore_eq c) s))
      = bigSep Finset.univ fun c : Fin 2 => bigSep Finset.univ fun s : Fin 16 => Φ (wid c s) := rfl
  rw [h1, bigSep_univ_equiv widEquiv Φ, bigSep_univ_prod]
  rfl

variable (h : Held F)

theorem st_all (d : Dev nD) :
    (bigSep Finset.univ fun c : Fin ((K (F := F)).nCore 0) => (P h).st 0 d c)
      = (iprop((nLoc d ↦{fullShare} h.num d) ∗ (tLoc d ↦{fullShare} h.tab d) ∗ gLoc d ↦{fullShare} h.old d) : sProp 𝕄) := by
  rw [nPts_all, tPts_all, gPts_all, ← bigSep_sep', ← bigSep_sep']
  exact bigSep_cores (F := F) (fun r => given h d r)
theorem dn_all (d : Dev nD) :
    (bigSep Finset.univ fun c : Fin ((K (F := F)).nCore 0) => (P h).dn 0 d c)
      = (iprop((nLoc d ↦{fullShare} h.num d) ∗ (tLoc d ↦{fullShare} h.tab d) ∗ gLoc d ↦{fullShare} new h d) : sProp 𝕄) := by
  rw [nPts_all, tPts_all, gPts_all, ← bigSep_sep', ← bigSep_sep']
  exact bigSep_cores (F := F) (fun r => back h d r)

/-! ## The gather's three buffers out of all of them -/

open Classical in
/-- The list, the table and the result. -/
def three : Finset (DevRef τ sig) := {rN, rT, rG}

theorem ref_mem (b : Ref sig .tc) (hb : b.isScoped = false) : (Proc.devRef .tc b : DevRef τ sig) ∈ Pipeline.ucRefs τ sig :=
  Finset.mem_filter.mpr ⟨StableHlo.devRef_mem_tcRefs _, fun h' => Bool.false_ne_true (hb.symm.trans h')⟩

omit [FloatOps F] in
theorem three_sub : three ⊆ Pipeline.ucRefs τ sig := by
  intro b hb
  simp only [three, Finset.mem_insert, Finset.mem_singleton] at hb
  rcases hb with rfl | rfl | rfl <;> exact ref_mem _ rfl

omit [FloatOps F] in
theorem held_three (d : Dev nD) (W : Valuation τ sig (Elt F)) :
    (StableHlo.held (d.tc : Thread nD τ) three W : sProp 𝕄)
      = iprop((nLoc d ↦{fullShare} W rN) ∗ (tLoc d ↦{fullShare} W rT) ∗ gLoc d ↦{fullShare} W rG) := by
  classical
  unfold StableHlo.held three
  have h32 : rN ≠ rT := StableHlo.devRef_ne_of_ne (by decide)
  have h34 : rN ≠ rG := StableHlo.devRef_ne_of_ne (by decide)
  have h24 : rT ≠ rG := StableHlo.devRef_ne_of_ne (by decide)
  rw [SparseCore.bigSep_insert' (by simp [h32, h34]), SparseCore.bigSep_insert' (by simp [h24]), bigSep_singleton]

theorem V4_num (d : Dev nD) : V4 m d rN = V3 m d rN := by
  unfold V4; exact Function.update_of_ne (StableHlo.devRef_ne_of_ne (by decide)) _ _
theorem V4_tab (d : Dev nD) : V4 m d rT = V3 m d rT := by
  unfold V4; exact Function.update_of_ne (StableHlo.devRef_ne_of_ne (by decide)) _ _
theorem V4_new (d : Dev nD) : V4 m d rG = new (held0 m) d := by
  unfold V4; exact Function.update_self _ _ _
theorem V4_off (d : Dev nD) (b : DevRef τ sig) (hb : b ∉ three) : V4 m d b = V3 m d b := by
  unfold V4; refine Function.update_of_ne ?_ _ _
  rintro rfl; exact hb (by simp [three])

/-- Before the call: all the buffers are the call's arguments and the rest; -/
theorem before_call (d : Dev nD) :
    (StableHlo.held (d.tc : Thread nD τ) (Pipeline.ucRefs τ sig) (V3 m d) : sProp 𝕄)
      = iprop((bigSep Finset.univ fun c : Fin ((K (F := F)).nCore 0) => (P (held0 m)).st 0 d c)
          ∗ StableHlo.held (d.tc : Thread nD τ) (Pipeline.ucRefs τ sig \ three) (V3 m d)) := by
  rw [StableHlo.held_sub_split (d.tc : Thread nD τ) three_sub, held_three, st_all]
  rfl
/-- after it, likewise. -/
theorem after_call (d : Dev nD) :
    (StableHlo.held (d.tc : Thread nD τ) (Pipeline.ucRefs τ sig) (V4 m d) : sProp 𝕄)
      = iprop((bigSep Finset.univ fun c : Fin ((K (F := F)).nCore 0) => (P (held0 m)).dn 0 d c)
          ∗ StableHlo.held (d.tc : Thread nD τ) (Pipeline.ucRefs τ sig \ three) (V3 m d)) := by
  rw [StableHlo.held_sub_split (d.tc : Thread nD τ) three_sub, held_three, dn_all, V4_num, V4_tab, V4_new,
    StableHlo.held_congr (d.tc : Thread nD τ) (S := Pipeline.ucRefs τ sig \ three) (V := V4 m d) (V' := V3 m d)
      (fun b hb => V4_off m d b (Finset.mem_sdiff.mp hb).2)]
  rfl

/-! ## The launch element -/

def u₀ : UU :=
  (initOf (K (F := F)).hsCells (K (F := F)).hsToks, (initOf (Pipeline.cells (nD := nD) cfgs cellOf_inj) (Pipeline.launchToks (nD := nD) cfgs cellOf_inj), 1))

/-- The pipeline's share of it, on each device. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_nothing {I : Type} (s : Finset I) : (bigSep s fun _ => iprop(emp)) = (iprop(emp) : sProp 𝕄) := bigSep_emp_const s

theorem G_all : iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c))
    ⊢ (bigSep Finset.univ fun d : Dev nD => G d : sProp 𝕄) := by
  unfold G
  rw [bigSep_sep']
  refine Entails.of_eq (congrArg₂ (fun a b : sProp 𝕄 => iprop(a ∗ b)) ?_ ?_)
  · exact bigSep_congr fun _ _ => bigSep_univ_of_subsingleton (0 : Fin 1)
  · exact bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P h).x q thr) := by
  unfold u₀
  iintro Hu
  ihave H := (ownU_pair (initOf (K (F := F)).hsCells (K (F := F)).hsToks) (initOf (Pipeline.cells (nD := nD) cfgs cellOf_inj) (Pipeline.launchToks (nD := nD) cfgs cellOf_inj), (1 : Counters))) $$ Hu
  icases H with ⟨HH, HR⟩
  ihave H := (own_pair_emb (embR (A := UH) (B := UP × Counters)) (initOf (Pipeline.cells (nD := nD) cfgs cellOf_inj) (Pipeline.launchToks (nD := nD) cfgs cellOf_inj)) (1 : Counters)) $$ HR
  icases H with ⟨HP, -⟩
  have hg := Pipeline.fund_ghost (Pipeline.pin (pcfgs (F := F)) adm) (EP (F := F)) (cellOf_inj)
  imod hg $$ [HP] with ⟨HC, HT⟩
  · iexact HP
  imodintro
  isplitl [HH]; · iexact HH
  isplitl [HC HT]
  · iapply (G_all (F := F))
    isplitl [HC]; · iexact HC
    iexact HT
  rw [show (bigSep Finset.univ fun thr : Thread nD τ => bigSep Finset.univ fun q : Fin 1 => (P (F := F) h).x q thr) = bigSep Finset.univ fun _ => iprop(emp) from
    bigSep_congr fun _ _ => bigSep_univ_of_subsingleton (0 : Fin 1), bigSep_nothing]
  iempintro

/-! ## @main on the TensorCore -/

abbrev FIN (d : Dev nD) : sProp 𝕄 := StableHlo.held (d.tc : Thread nD τ) (Pipeline.ucRefs τ sig) (V5 m d)

/-- One host operation: the buffers it holds move to its result. -/
theorem host_step (d : Dev nD) (op : HloOp τ sig (Elt F)) (hb : op.bufs ⊆ StableHlo.tcRefs τ sig) (hf : op.fresh = ∅) (hp : (SparseCore.T d : Thread nD τ).2.kind.runsHlo = true)
    {W W' : Valuation τ sig (Elt F)} (hW : op.result W = W') (Q : PUnit → sProp 𝕄) :
    iprop((boundary (SparseCore.T d) ∗ StableHlo.held (SparseCore.T d) (Pipeline.ucRefs τ sig) W)
        ∗ ((boundary (SparseCore.T d) ∗ StableHlo.held (SparseCore.T d) (Pipeline.ucRefs τ sig) W') -∗ Q ⟨⟩))
      ⊢ wp frame (wpE ((K (F := F)).defs (D (F := F))) 𝒱 (SparseCore.T d) none) Set.univ (hlo hp op (fun _ => .ret ⟨⟩)) Q := by
  subst hW
  iintro ⟨H, Hk⟩
  iapply (StableHlo.wp_hlo_within 𝒱 (SparseCore.T d) none Set.univ (op := op) (S := Pipeline.ucRefs τ sig) (Pipeline.sub_ucRefs _ hb) hf) $$ H
  iintro H
  rw [wp_ret]
  imodintro
  iapply Hk; iexact H

/-- The region's entry, seen from the layer above. -/
theorem lifted : (Prog.lift (.customCall (SparseCore.inner (Pipeline.entry 0)) ()) : Prog (TpuEff nD τ sig (Elt F) (SparseCore.Sig (ΛP (F := F)) 1) .tc) PUnit)
    = SparseCore.liftProg (Q := 1) (Prog.lift (.customCall (Pipeline.entry 0) ()) : Prog (TpuEff nD τ sig (Elt F) (ΛP (F := F)) .tc) PUnit) := by
  rfl

theorem seg_pre (W : Dev nD → Valuation τ sig (Elt F)) (d : Dev nD) :
    (sortSeg W).pre d = iprop(StableHlo.held (SparseCore.T d) (Pipeline.ucRefs τ sig) (W d) ∗ owing (F := F) d) := rfl
theorem seg_post (W : Dev nD → Valuation τ sig (Elt F)) (d : Dev nD) :
    (sortSeg W).post d = iprop(StableHlo.held (SparseCore.T d) (Pipeline.ucRefs τ sig) (afterSort W d) ∗ owing (F := F) d) := rfl

/-- The sort's region, entered from the TensorCore's program. -/
theorem region_step (d : Dev nD) [∀ e, Nonempty (Elt F e)] (W : Dev nD → Valuation τ sig (Elt F)) {W' : Valuation τ sig (Elt F)} (hW : afterSort W d = W') (Q : PUnit → sProp 𝕄) :
    iprop((boundary (SparseCore.T d) ∗ (StableHlo.held (SparseCore.T d) (Pipeline.ucRefs τ sig) (W d) ∗ owing (F := F) d)
          ∗ levAts (K (F := F)).L (K (F := F)).lev ∗ G d)
        ∗ ((boundary (SparseCore.T d) ∗ (StableHlo.held (SparseCore.T d) (Pipeline.ucRefs τ sig) W' ∗ owing (F := F) d)) -∗ Q ⟨⟩))
      ⊢ wp frame (wpE ((K (F := F)).defs (D (F := F))) 𝒱 (SparseCore.T d) none) Set.univ (Prog.lift (.customCall (SparseCore.inner (Pipeline.entry 0)) ())) Q := by
  subst hW
  rw [lifted]
  have lift := (K (F := F)).wp_liftProg (D (F := F)) 𝒱 (SparseCore.T d : Thread nD τ) Set.univ none (Prog.lift (.customCall (Pipeline.entry 0) ()) : Prog (TpuEff nD τ sig (Elt F) (ΛP (F := F)) .tc) PUnit) Q
  refine BIBase.Entails.trans ?_ lift
  have key := Pipeline.RegionSeg.wp (pcfgs (F := F)) adm (sortDats W) none cellOf_inj EP defs₀ 𝒱₀ (K (F := F)).L (K (F := F)).lev (sortSeg W) d none (by simp) (fun x => (.ret x : Prog (TpuEff nD τ sig (Elt F) (ΛP (F := F)) .tc) PUnit)) Q
  refine BIBase.Entails.trans ?_ key
  iintro ⟨⟨Hb, Hpre, Hlev, HG⟩, Hk⟩
  isplitl [Hk]
  · iintro ⟨Hb, Hpost⟩
    rw [wp_ret]
    imodintro
    ihave Hpost' := (Entails.of_eq (seg_post W d)) $$ Hpost
    iapply Hk
    isplitl [Hb]; · iexact Hb
    iexact Hpost'
  isplitl [Hb]; · iexact Hb
  isplitl [Hpre]; · iapply (Entails.of_eq (seg_pre W d).symm); iexact Hpre
  isplitl [Hlev]; · iexact Hlev
  unfold G; iexact HG

/-- What the TensorCore holds before the call, but for what it owes. -/
def restSt (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_start (d : Dev nD) : ((K (F := F)).tcSt EH d 0 : sProp 𝕄) = iprop(owing (F := F) d ∗ restSt d 0) := rfl

/-- @main on a device's TensorCore. -/
theorem hmain (κ : GSem nD τ sig → ℕ) (d : Dev nD) [∀ e, Nonempty (Elt F e)] :
    iprop((K (F := F)).ctx EH (P (held0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hub : (unscopedBufs d (fun b => m ((SparseCore.T d).loc b)) : sProp 𝕄)
      = StableHlo.held (d.tc : Thread nD τ) (Pipeline.ucRefs τ sig) (V0 m d) := Pipeline.unscopedBufs_held d (V0 m d)
  rw [hub]
  simp only [main, wp_bind, wp_pure]
  iintro ⟨#Hctx, Hst, ⟨Hb, Hu, Hts, -⟩, HG⟩
  iapply (host_step d (opSwap (F := F)) (StableHlo.unary_bufs_sub ..) rfl rfl (show _ = V1 m d from rfl) _)
  isplitl [Hb Hu]
  · isplitl [Hb] <;> iassumption
  iintro ⟨Hb, Hu⟩
  ihave Hst' := (Entails.of_eq (tcSt_start d)) $$ Hst
  icases Hst' with ⟨HO, Hst⟩
  ihave Hlev := (SparseCore.Cfg.ctx_levAts κ) $$ Hctx
  iapply (region_step d (V1 m) (show _ = V2 m d from rfl) _)
  isplitl [Hb Hu HO Hlev HG]
  · isplitl [Hb]; · iexact Hb
    isplitl [Hu HO]
    · isplitl [Hu]; · iexact Hu
      iexact HO
    isplitl [Hlev]; · iexact Hlev
    iexact HG
  iintro ⟨Hb, Hu, HO⟩
  iapply (host_step d (opTable (F := F)) (StableHlo.reshape_bufs_sub ..) rfl rfl (show _ = (opTable (F := F)).result (V2 m d) from rfl) _)
  isplitl [Hb Hu]
  · isplitl [Hb] <;> iassumption
  iintro ⟨Hb, Hu⟩
  iapply (host_step d (opList (F := F)) (StableHlo.reshape_bufs_sub ..) rfl rfl (show _ = V3 m d from rfl) _)
  isplitl [Hb Hu]
  · isplitl [Hb] <;> iassumption
  iintro ⟨Hb, Hu⟩
  ihave Hu' := (Entails.of_eq (before_call m d)) $$ Hu
  icases Hu' with ⟨Hargs, Hrest⟩
  iapply ((K (F := F)).wp_run (D (F := F)) 𝒱 (EH := EH) (P := P (held0 m)) κ d 0)
  isplitr; · iexact Hctx
  isplitl [HO Hst]
  · iapply (Entails.of_eq (tcSt_start d).symm)
    isplitl [HO]; · iexact HO
    iexact Hst
  isplitl [Hargs]; · iexact Hargs
  iintro ⟨Hst, Hdn⟩
  ihave Hu := (Entails.of_eq (after_call m d).symm) $$ [Hdn Hrest]
  · isplitl [Hdn] <;> iassumption
  iapply (host_step d (op5 (F := F)) (StableHlo.reshape_bufs_sub ..) rfl rfl (show _ = (op5 (F := F)).result (V4 m d) from rfl) _)
  isplitl [Hb Hu]
  · isplitl [Hb] <;> iassumption
  iintro ⟨Hb, Hu⟩
  iapply (host_step d (op6 (F := F)) (StableHlo.reshape_bufs_sub ..) rfl rfl (show _ = (op6 (F := F)).result ((op5 (F := F)).result (V4 m d)) from rfl) _)
  isplitl [Hb Hu]
  · isplitl [Hb] <;> iassumption
  iintro ⟨Hb, Hu⟩
  iapply (host_step d (op7 (F := F)) (StableHlo.reshape_bufs_sub ..) rfl rfl (show _ = (op7 (F := F)).result ((op6 (F := F)).result ((op5 (F := F)).result (V4 m d))) from rfl) _)
  isplitl [Hb Hu]
  · isplitl [Hb] <;> iassumption
  iintro ⟨Hb, Hu⟩
  iapply (host_step d (op8 (F := F)) (StableHlo.reshape_bufs_sub ..) rfl rfl (show _ = (op8 (F := F)).result ((op7 (F := F)).result ((op6 (F := F)).result ((op5 (F := F)).result (V4 m d)))) from rfl) _)
  isplitl [Hb Hu]
  · isplitl [Hb] <;> iassumption
  iintro ⟨Hb, Hu⟩
  iapply (host_step d (op9 (F := F)) (StableHlo.reshape_bufs_sub ..) rfl rfl (show _ = (op9 (F := F)).result ((op8 (F := F)).result ((op7 (F := F)).result ((op6 (F := F)).result ((op5 (F := F)).result (V4 m d))))) from rfl) _)
  isplitl [Hb Hu]
  · isplitl [Hb] <;> iassumption
  iintro ⟨Hb, Hu⟩
  iapply (host_step d (op10 (F := F)) (StableHlo.reshape_bufs_sub ..) rfl rfl (show _ = (op10 (F := F)).result ((op9 (F := F)).result ((op8 (F := F)).result ((op7 (F := F)).result ((op6 (F := F)).result ((op5 (F := F)).result (V4 m d)))))) from rfl) _)
  isplitl [Hb Hu]
  · isplitl [Hb] <;> iassumption
  iintro ⟨Hb, Hu⟩
  iapply (host_step d (op11 (F := F)) (StableHlo.reshape_bufs_sub ..) rfl rfl (show _ = (op11 (F := F)).result ((op10 (F := F)).result ((op9 (F := F)).result ((op8 (F := F)).result ((op7 (F := F)).result ((op6 (F := F)).result ((op5 (F := F)).result (V4 m d))))))) from rfl) _)
  isplitl [Hb Hu]
  · isplitl [Hb] <;> iassumption
  iintro ⟨Hb, Hu⟩
  iapply (host_step d (op12 (F := F)) (StableHlo.reshape_bufs_sub ..) rfl rfl (show _ = V5 m d from rfl) _)
  isplitl [Hb Hu]
  · isplitl [Hb] <;> iassumption
  iintro ⟨Hb, Hu⟩
  imodintro
  isplitl [Hst]; · iexact Hst
  isplitl [Hu]; · iexact Hu
  isplitl [Hb] <;> iassumption

/-! ## The final memory -/

/-- Every unscoped buffer holds its value. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  classical
  by_cases hq : fq m d s'
  · iintro -; ipureintro; exact hq
  · unfold fq at hq
    push Not at hq
    obtain ⟨b, hb, hne⟩ := hq
    rw [show FIN m d = iprop(StableHlo.held (d.tc : Thread nD τ) {b} (V5 m d) ∗ StableHlo.held (d.tc : Thread nD τ) (Pipeline.ucRefs τ sig \ {b}) (V5 m d))
      from StableHlo.held_sub_split (d.tc : Thread nD τ) (Finset.singleton_subset_iff.mpr hb) (V5 m d)]
    rw [show (StableHlo.held (d.tc : Thread nD τ) {b} (V5 m d) : sProp 𝕄) = ((d, b) ↦{fullShare} V5 m d b) from bigSep_singleton]
    iintro ⟨⟨Hb, -⟩, HSI⟩
    ihave H := (SI_pointsTo_agree (st := s') (ℓ := (d, b)) (I := Finset.univ) (q := fullShare) (f := V5 m d b)) $$ [HSI Hb]
    · isplitl [HSI] <;> iassumption
    icases H with %h
    exact absurd (funext fun i => h i (Finset.mem_univ i)) hne

/-! ## The program's run -/

def QC : PUnit × MemSt nD τ sig (Elt F) → Prop := fun r =>
  (∀ (d : Dev nD), ∀ b ∈ Pipeline.ucRefs τ sig, r.2.mem (d, b) = V5 m d b) ∧ r.2.sem = fun _ => 0

theorem run_main [∀ e, Nonempty (Elt F e)] (hin : (held0 m).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (held0 m)) (A := ∅) facts v₀
    (fun q hq => match q with | 0 => nomatch hq)
    (fun q _ => match q with | 0 => tileObl (held0 m) facts hin)
    (fun q _ => match q with | 0 => SparseCore.Cfg.VecSplit.of_plain (vecSplit (held0 m)))
    m ρ main (fun d => G d) (FIN m) (u₀ (F := F)) (sep_elim_left.trans (hu₀ (held0 m))) (fun κ d => hmain m ρ κ d) (fq m) (hfin m) (QC m) (fun _ h hz => ⟨h, hz⟩)

end Cert.GoldSpans

end
-- ==== Proof.Order.lean ====
module

public import Idealize.ShloMosaic.Lib.WordSum
public import Mathlib.Data.Fintype.Card
public import Mathlib.Order.WellFounded
public import Mathlib.Order.Fin.Basic
public import Mathlib.Data.BitVec

@[expose] public section

/-! The order of one batch's spans: 512 entries, each at most 32768, made distinct by their positions.
    Stated over words alone; nothing here speaks of a program. -/

namespace Cert.GoldSpans

/-- An entry and its position in one number: distinct positions give distinct numbers. -/
def compound (M : Fin 512 → BitVec 32) (i : Fin 512) : ℕ := (M i).toNat * 512 + i.val

theorem compound_inj (M : Fin 512 → BitVec 32) : Function.Injective (compound M) := by
  intro i j h
  have h' : (M i).toNat * 512 + i.val = (M j).toNat * 512 + j.val := h
  exact Fin.ext (by omega)

/-- How many positions come before `i`. -/
def place (M : Fin 512 → BitVec 32) (i : Fin 512) : Fin 512 :=
  ⟨(Finset.univ.filter fun j => compound M j < compound M i).card, by
    have h : (Finset.univ.filter fun j => compound M j < compound M i) ⊂ Finset.univ :=
      Finset.filter_ssubset.2 ⟨i, Finset.mem_univ _, lt_irrefl _⟩
    have := Finset.card_lt_card h
    simpa using this⟩

theorem place_lt (M : Fin 512 → BitVec 32) {i j : Fin 512} (h : compound M i < compound M j) : place M i < place M j := by
  show (Finset.univ.filter fun k => compound M k < compound M i).card
    < (Finset.univ.filter fun k => compound M k < compound M j).card
  refine Finset.card_lt_card ((Finset.ssubset_iff_of_subset fun k hk => ?_).2 ⟨i, ?_, ?_⟩)
  · rw [Finset.mem_filter] at hk ⊢
    exact ⟨hk.1, hk.2.trans h⟩
  · exact Finset.mem_filter.2 ⟨Finset.mem_univ _, h⟩
  · rw [Finset.mem_filter]
    exact fun hk => lt_irrefl _ hk.2

theorem place_inj (M : Fin 512 → BitVec 32) : Function.Injective (place M) := by
  intro i j h
  rcases lt_trichotomy (compound M i) (compound M j) with hl | he | hl
  · exact absurd h (place_lt M hl).ne
  · exact compound_inj M he
  · exact absurd h (place_lt M hl).ne'

/-- The places as a permutation of the positions. -/
noncomputable def placing (M : Fin 512 → BitVec 32) : Equiv.Perm (Fin 512) :=
  Equiv.ofBijective (place M) (Finite.injective_iff_bijective.1 (place_inj M))

/-- The position which comes `j`-th. -/
noncomputable def nth (M : Fin 512 → BitVec 32) (j : Fin 512) : Fin 512 := (placing M).symm j

theorem place_nth (M : Fin 512 → BitVec 32) (j : Fin 512) : place M (nth M j) = j := (placing M).apply_symm_apply j

theorem place_eq_iff (M : Fin 512 → BitVec 32) (i j : Fin 512) : place M i = j ↔ i = nth M j := by
  constructor
  · intro h
    exact place_inj M (h.trans (place_nth M j).symm)
  · rintro rfl
    exact place_nth M j

theorem compound_nth (M : Fin 512 → BitVec 32) : StrictMono fun j => compound M (nth M j) := by
  intro i j h
  rcases lt_trichotomy (compound M (nth M i)) (compound M (nth M j)) with hl | he | hl
  · exact hl
  · have e := congrArg (place M) (compound_inj M he)
    rw [place_nth, place_nth] at e
    exact absurd e h.ne
  · have e := place_lt M hl
    rw [place_nth, place_nth] at e
    exact absurd e (not_lt.2 h.le)

/-- Any listing of the positions along which the compounds grow is this one. -/
theorem eq_nth (M : Fin 512 → BitVec 32) (p : Fin 512 → Fin 512) (hp : StrictMono fun j => compound M (p j)) :
    p = nth M := by
  have sp : Function.Surjective p :=
    Finite.injective_iff_surjective.1 fun i j h => hp.injective (congrArg (compound M) h)
  have sn : Function.Surjective (nth M) := (placing M).symm.surjective
  have h := (StrictMono.range_inj hp (compound_nth M)).1 (by
    show Set.range (compound M ∘ p) = Set.range (compound M ∘ nth M)
    rw [sp.range_comp, sn.range_comp])
  funext j
  exact compound_inj M (congrFun h j)

/-- The sum over the positions that keeps only the one whose place is `j`. -/
theorem sum_place (M w : Fin 512 → BitVec 32) (j : Fin 512) :
    (∑ i : Fin 512, if place M i = j then w i else 0#32) = w (nth M j) := by
  have e : ∀ i, (if place M i = j then w i else 0#32) = if i = nth M j then w i else 0 := fun i => by
    by_cases h : place M i = j
    · rw [if_pos h, if_pos ((place_eq_iff M i j).1 h)]
    · rw [if_neg h, if_neg fun h' => h ((place_eq_iff M i j).2 h')]; rfl
  rw [Finset.sum_congr rfl fun i _ => e i, Finset.sum_ite_eq' Finset.univ, if_pos (Finset.mem_univ _)]

/-- The span's number: sixteen times its start, and its length. -/
def spanNo (g e : BitVec 32) : BitVec 32 := g * 16#32 + (e - g)

/-- Position `i`'s entry: the span's number where the batch has so many spans, else the largest. -/
def entry (L : BitVec 32) (g e : Fin 512 → BitVec 32) (i : Fin 512) : BitVec 32 :=
  if (BitVec.ofNat 32 i.val).slt L then spanNo (g i) (e i) else 32768#32

/-- The largest entry is replaced by zero. -/
def clip (w : BitVec 32) : BitVec 32 := if w.slt 32768#32 then w else 0#32

theorem spanNo_toNat {g e : BitVec 32} (h0 : g.toNat < 2032) (h1 : g.toNat ≤ e.toNat) (h2 : e.toNat < g.toNat + 16) :
    (spanNo g e).toNat = g.toNat * 16 + (e.toNat - g.toNat) := by
  have hs : (e - g).toNat = e.toNat - g.toNat := BitVec.toNat_sub_of_le h1
  have hm : (g * 16#32).toNat = g.toNat * 16 := by
    rw [BitVec.toNat_mul, BitVec.toNat_ofNat]; omega
  rw [spanNo, BitVec.toNat_add, hs, hm]
  omega

theorem spanNo_lt {g e : BitVec 32} (h0 : g.toNat < 2032) (h1 : g.toNat ≤ e.toNat) (h2 : e.toNat < g.toNat + 16) :
    (spanNo g e).toNat < 32768 := by
  rw [spanNo_toNat h0 h1 h2]; omega

theorem entry_le {L : BitVec 32} {g e : Fin 512 → BitVec 32} (h : ∀ i, (spanNo (g i) (e i)).toNat < 32768) (i : Fin 512) :
    (entry L g e i).toNat ≤ 32768 := by
  unfold entry
  split
  · exact (h i).le
  · exact le_of_eq (by decide)

theorem entry_lt_iff {L : BitVec 32} {g e : Fin 512 → BitVec 32} (h : ∀ i, (spanNo (g i) (e i)).toNat < 32768) (i : Fin 512) :
    (entry L g e i).toNat < 32768 ↔ (BitVec.ofNat 32 i.val).slt L = true := by
  unfold entry
  split
  · rename_i hs
    exact ⟨fun _ => hs, fun _ => h i⟩
  · rename_i hs
    exact ⟨fun hl => absurd hl (by decide), fun ht => absurd ht hs⟩

theorem slt_big {w : BitVec 32} (h : w.toNat ≤ 32768) : w.slt 32768#32 = true ↔ w.toNat < 32768 := by
  rw [BitVec.slt_eq_decide, decide_eq_true_eq, BitVec.toInt_eq_toNat_cond, BitVec.toInt_eq_toNat_cond, BitVec.toNat_ofNat]
  omega

theorem clip_lt {w : BitVec 32} (h : w.toNat ≤ 32768) : (clip w).toNat < 32768 := by
  unfold clip
  split
  · rename_i hs
    exact (slt_big h).1 hs
  · decide

end Cert.GoldSpans
-- ==== Proof.SortValue.lean ====
/-
  What the TensorCore kernel's payloads are at an index: entries, their places, and the sorted listing.
-/
module

public import proofs.«01_k».proof.Proof.SortBody
public import proofs.«01_k».proof.Proof.Order
public import Idealize.ShloMosaic.Lib.Pointwise
public import Idealize.ShloMosaic.Lib.Pipeline.Value
public import Idealize.ShloMosaic.Lib.ValueLayout
public import Idealize.ShloMosaic.Lib.WordCmp

@[expose] public section

set_option maxRecDepth 16384

noncomputable section

namespace Cert.GoldSpans

open Cert.KernelIdeal Cert.KernelIdeal.Gen
open Idealize.ShloMosaic Idealize.ShloMosaic.TcCoe

variable {F : FTy → Type} [FloatOps F]

/-! ## Casts and broadcasts of the body's shapes -/

theorem cast_col (v : IVec S1x512x1 32) (h) (q : Fin 512) (z : Fin 1) : shapeCast S512x1 v h (ix2 q z) = v (ix3 0 q 0) := by
  obtain rfl : z = 0 := Subsingleton.elim _ _
  simp only [pointwise]

theorem cast_row (v : IVec S1x1x512 32) (h) (z : Fin 1) (q : Fin 512) : shapeCast S1x512 v h (ix2 z q) = v (ix3 0 0 q) := by
  obtain rfl : z = 0 := Subsingleton.elim _ _
  simp only [pointwise]

theorem cast_up {α : Type} (v : S1x512.Idx → α) (h) (z z' : Fin 1) (q : Fin 512) :
    shapeCast S1x1x512 v h (ix3 z z' q) = v (ix2 0 q) := by
  obtain rfl : z = 0 := Subsingleton.elim _ _
  obtain rfl : z' = 0 := Subsingleton.elim _ _
  simp only [pointwise]

theorem cast_list (v : IVec S512 32) (h) (q : Fin 512) (z : Fin 1) : shapeCast S512x1 v h (ix2 q z) = v (ix1 q) := by
  obtain rfl : z = 0 := Subsingleton.elim _ _
  simp only [pointwise]

theorem cast_listR (v : IVec S512 32) (h) (z : Fin 1) (q : Fin 512) : shapeCast S1x512 v h (ix2 z q) = v (ix1 q) := by
  obtain rfl : z = 0 := Subsingleton.elim _ _
  simp only [pointwise]

theorem cast_sq {α : Type} (v : S512x512.Idx → α) (h) (z : Fin 1) (a b : Fin 512) :
    shapeCast S1x512x512 v h (ix3 z a b) = v (ix2 a b) := by
  obtain rfl : z = 0 := Subsingleton.elim _ _
  simp only [pointwise]

theorem spread_col (v : IVec S512x1 32) (h) (a b : Fin 512) : broadcastTo S512x512 v h (ix2 a b) = v (ix2 a 0) := by
  simp only [pointwise]
  rfl
theorem spread_row (v : IVec S1x512 32) (h) (a b : Fin 512) : broadcastTo S512x512 v h (ix2 a b) = v (ix2 0 b) := by
  simp only [pointwise]
  rfl

theorem sum_col (v : IVec S512x512 32) (h) (hn) (j : Fin 512) :
    multiReductionI .add [0] S512 v 0#32 h hn (ix1 j) = ∑ i : Fin 512, v (ix2 i j) := by
  rw [multiReductionI_eq_reduceFold]
  show reduceFold h (· + ·) (0#32 : BitVec 32) v (ix1 j) = _
  rw [reduceFold_add_eq_sum, show (0#32 : BitVec 32) = 0 from rfl, zero_add]
  exact Shape.Reduces.sum_fiber_r2_a0 (n0 := 512) (n1 := 512) h (ix1 j) v

theorem sum_row (v : IVec S512x512 32) (h) (hn) (i : Fin 512) :
    multiReductionI .add [1] S512 v 0#32 h hn (ix1 i) = ∑ j : Fin 512, v (ix2 i j) := by
  rw [multiReductionI_eq_reduceFold]
  show reduceFold h (· + ·) (0#32 : BitVec 32) v (ix1 i) = _
  rw [reduceFold_add_eq_sum, show (0#32 : BitVec 32) = 0 from rfl, zero_add]
  exact Shape.Reduces.sum_fiber_r2_a1 (n0 := 512) (n1 := 512) h (ix1 i) v

/-! ## The entries -/

section Body
variable (i : grid0.Coords) (x0 : Vec F S8 .i32) (x1 : Vec F S1x512x2 .i32) (x2 : Vec F S1x2x512 .i32)

/-- The batch's entries, from its spans and their number. -/
def ents : Fin 512 → BitVec 32 :=
  entry (lenOf i x0) (fun q => x1 (ix3 0 q 0)) (fun q => x1 (ix3 0 q 1))

theorem posC_at (q : Fin 512) (z : Fin 1) : posC (ix2 q z) = BitVec.ofNat 32 q.val := by
  show BitVec.ofNat 32 (0 * 512 + q.val) = _
  rw [Nat.zero_mul, Nat.zero_add]

theorem posR_at (z : Fin 1) (q : Fin 512) : posR (ix2 z q) = BitVec.ofNat 32 q.val := by
  show BitVec.ofNat 32 (0 * 512 + q.val) = _
  rw [Nat.zero_mul, Nat.zero_add]

theorem pick_lt {α : Type} (a b : BitVec 32) (x y : α) :
    Scalar.select (IntOp.cmpi .slt a b) x y = if a.slt b then x else y := by
  show (if BitVec.ofBool (a.slt b) = 1#1 then x else y) = _
  cases a.slt b <;> rfl

theorem pick_eq {α : Type} (a b : BitVec 32) (x y : α) :
    Scalar.select (IntOp.cmpi .eq a b) x y = if a = b then x else y := by
  show (if BitVec.ofBool (a == b) = 1#1 then x else y) = _
  by_cases h : a = b
  · rw [if_pos h, beq_iff_eq.2 h]; rfl
  · rw [if_neg h, beq_eq_false_iff_ne.2 h]; rfl

theorem maskedC_at (q : Fin 512) (z : Fin 1) : maskedC i x0 x1 (ix2 q z) = ents i x0 x1 q := by
  have hb := cast_col (colB x1) shapeCasts_S1x512x1_S512x1 q z
  have he := cast_col (colE x1) shapeCasts_S1x512x1_S512x1 q z
  show Scalar.select (IntOp.cmpi .slt (posC (ix2 q z)) (lenOf i x0))
    (spanNo (shapeCast S512x1 (colB x1) shapeCasts_S1x512x1_S512x1 (ix2 q z)) (shapeCast S512x1 (colE x1) shapeCasts_S1x512x1_S512x1 (ix2 q z)))
    32768#32 = _
  rw [hb, he, posC_at, pick_lt]
  rfl

/-- A word's one bit, widened. -/
theorem widen_lt (a b : BitVec 32) (h : 1 < 32) :
    (IntOp.cmpi .slt a b).setWidth 32 = if a.slt b then 1#32 else 0#32 := by
  show (BitVec.ofBool (a.slt b)).setWidth 32 = _
  cases a.slt b <;> rfl

variable {x1 x2}
variable (hx : ∀ (k : Fin 2) (q : Fin 512), x2 (ix3 0 k q) = x1 (ix3 0 q k))
variable (hM : ∀ q, (ents i x0 x1 q).toNat ≤ 32768)

include hM in
/-- Comparing the words that carry the compounds is comparing the compounds. -/
theorem word_lt (a b : Fin 512) :
    (ents i x0 x1 a * 512#32 + BitVec.ofNat 32 a.val).slt (ents i x0 x1 b * 512#32 + BitVec.ofNat 32 b.val) = true
      ↔ compound (ents i x0 x1) a < compound (ents i x0 x1) b := by
  have e : ∀ q : Fin 512, (ents i x0 x1 q * 512#32 + BitVec.ofNat 32 q.val).toNat = compound (ents i x0 x1) q := fun q => by
    have h1 := hM q
    have h2 := q.isLt
    have hm : (ents i x0 x1 q * 512#32).toNat = (ents i x0 x1 q).toNat * 512 := by
      rw [BitVec.toNat_mul, BitVec.toNat_ofNat]; omega
    rw [BitVec.toNat_add, hm, BitVec.toNat_ofNat]
    unfold compound
    omega
  have l : ∀ q : Fin 512, compound (ents i x0 x1) q < 2 ^ 31 := fun q => by
    have h1 := hM q
    have h2 := q.isLt
    unfold compound
    omega
  have la := l a
  have lb := l b
  rw [BitVec.slt_eq_decide, decide_eq_true_eq, BitVec.toInt_eq_toNat_cond, BitVec.toInt_eq_toNat_cond, e, e]
  omega

include hx in
theorem rankC_sum (q : Fin 512) (z : Fin 1) : rankC i x0 x1 x2 (ix2 q z)
    = ∑ j : Fin 512, if (ents i x0 x1 j * 512#32 + BitVec.ofNat 32 j.val).slt (ents i x0 x1 q * 512#32 + BitVec.ofNat 32 q.val)
        then 1#32 else 0#32 := by
  unfold rankC k0_pay3
  rw [cast_list]
  refine (sum_row _ reduces_S512x512_S512 rfl q).trans (Finset.sum_congr rfl fun j _ => ?_)
  have hb := cast_row (rowB x2) shapeCasts_S1x1x512_S1x512 0 j
  have he := cast_row (rowE x2) shapeCasts_S1x1x512_S1x512 0 j
  show (IntOp.cmpi .slt (broadcastTo S512x512 _ broadcasts_S1x512_S512x512 (ix2 q j))
    (broadcastTo S512x512 _ broadcasts_S512x1_S512x512 (ix2 q j))).setWidth 32 = _
  rw [spread_row, spread_col, widen_lt _ _ (by decide)]
  have hr : Scalar.select (IntOp.cmpi .slt (posR (ix2 0 j)) (lenOf i x0))
      (spanNo (shapeCast S1x512 (rowB x2) shapeCasts_S1x1x512_S1x512 (ix2 0 j)) (shapeCast S1x512 (rowE x2) shapeCasts_S1x1x512_S1x512 (ix2 0 j)))
      32768#32 = ents i x0 x1 j := by
    rw [hb, he, posR_at, pick_lt]
    show (if _ then spanNo (x2 (ix3 0 0 j)) (x2 (ix3 0 1 j)) else _) = _
    rw [hx, hx]
    rfl
  show (if BitVec.slt (Scalar.select (IntOp.cmpi .slt (posR (ix2 0 j)) (lenOf i x0))
      (spanNo (shapeCast S1x512 (rowB x2) shapeCasts_S1x1x512_S1x512 (ix2 0 j)) (shapeCast S1x512 (rowE x2) shapeCasts_S1x1x512_S1x512 (ix2 0 j)))
      32768#32 * 512#32 + posR (ix2 0 j)) (maskedC i x0 x1 (ix2 q 0) * 512#32 + posC (ix2 q 0)) = true then 1#32 else 0#32) = _
  rw [hr, posR_at, posC_at, maskedC_at]

include hx hM in
theorem rankC_at (q : Fin 512) (z : Fin 1) : rankC i x0 x1 x2 (ix2 q z) = BitVec.ofNat 32 (place (ents i x0 x1) q).val := by
  rw [rankC_sum i x0 hx]
  have e : ∀ j : Fin 512, (if (ents i x0 x1 j * 512#32 + BitVec.ofNat 32 j.val).slt (ents i x0 x1 q * 512#32 + BitVec.ofNat 32 q.val)
        then 1#32 else 0#32) = if compound (ents i x0 x1) j < compound (ents i x0 x1) q then (1 : BitVec 32) else 0 := fun j => by
    by_cases h : compound (ents i x0 x1) j < compound (ents i x0 x1) q
    · rw [if_pos h, if_pos ((word_lt i x0 hM j q).2 h)]; rfl
    · rw [if_neg h, if_neg fun h' => h ((word_lt i x0 hM j q).1 h')]; rfl
  rw [Finset.sum_congr rfl fun j _ => e j, Finset.sum_boole]
  rfl

include hx hM in
theorem rank_eq_iff (q j : Fin 512) (z : Fin 1) :
    rankC i x0 x1 x2 (ix2 q z) = BitVec.ofNat 32 j.val ↔ place (ents i x0 x1) q = j := by
  rw [rankC_at i x0 hx hM]
  have h1 := (place (ents i x0 x1) q).isLt
  have h2 := j.isLt
  constructor
  · intro h
    have e := congrArg BitVec.toNat h
    rw [BitVec.toNat_ofNat, BitVec.toNat_ofNat] at e
    exact Fin.ext (by omega)
  · rintro rfl
    rfl

/-! ## The sorted listing -/

include hx hM in
/-- The sum over the column that keeps only the entry of place `j`. -/
theorem chosen (v : IVec S512x1 32) (hh) (hn) (hc) (hb) (z : Fin 1) (j : Fin 512) :
    shapeCast S1x512 (multiReductionI .add [0] S512 (select (k0_pay4 posR (rankC i x0 x1 x2))
      (broadcastTo S512x512 (shapeCast S512x1 v hc) hb) (broadcast S512x512 0#32)) 0#32 hh hn) shapeCasts_S512_S1x512 (ix2 z j)
      = v (ix2 (nth (ents i x0 x1) j) 0) := by
  rw [cast_listR, sum_col, ← sum_place (ents i x0 x1) (fun q => v (ix2 q 0)) j]
  refine Finset.sum_congr rfl fun q _ => ?_
  show Scalar.select (IntOp.cmpi .eq (broadcastTo S512x512 (rankC i x0 x1 x2) broadcasts_S512x1_S512x512 (ix2 q j))
    (broadcastTo S512x512 posR broadcasts_S1x512_S512x512 (ix2 q j)))
    (broadcastTo S512x512 (shapeCast S512x1 v hc) hb (ix2 q j)) 0#32 = _
  rw [spread_col, spread_row, spread_col, posR_at, pick_eq, shapeCast_self]
  by_cases h : place (ents i x0 x1) q = j
  · rw [if_pos h, if_pos ((rank_eq_iff i x0 hx hM q j 0).2 h)]
  · rw [if_neg h, if_neg fun h' => h ((rank_eq_iff i x0 hx hM q j 0).1 h')]

/-- The number listed `j`-th, or zero past the batch's spans. -/
def listed (j : Fin 512) : BitVec 32 := clip (ents i x0 x1 (nth (ents i x0 x1) j))

include hx hM in
theorem pay5_at (z : Fin 1) (j : Fin 512) :
    k0_pay5 posR (maskedC i x0 x1) (rankC i x0 x1 x2) (ix2 z j) = listed i x0 (x1 := x1) j := by
  have h := chosen i x0 hx hM (maskedC i x0 x1) reduces_S512x512_S512_2 rfl shapeCasts_S512x1_S512x1 broadcasts_S512x1_S512x512 z j
  rw [maskedC_at] at h
  show Scalar.select (IntOp.cmpi .slt (shapeCast S1x512 (multiReductionI .add [0] S512 (select (k0_pay4 posR (rankC i x0 x1 x2))
      (broadcastTo S512x512 (shapeCast S512x1 (maskedC i x0 x1) shapeCasts_S512x1_S512x1) broadcasts_S512x1_S512x512) (broadcast S512x512 0#32)) 0#32 reduces_S512x512_S512_2 rfl) shapeCasts_S512_S1x512 (ix2 z j)) 32768#32)
    (shapeCast S1x512 (multiReductionI .add [0] S512 (select (k0_pay4 posR (rankC i x0 x1 x2))
      (broadcastTo S512x512 (shapeCast S512x1 (maskedC i x0 x1) shapeCasts_S512x1_S512x1) broadcasts_S512x1_S512x512) (broadcast S512x512 0#32)) 0#32 reduces_S512x512_S512_2 rfl) shapeCasts_S512_S1x512 (ix2 z j)) 0#32 = _
  rw [h, pick_lt]
  rfl

include hM in
theorem listed_lt (j : Fin 512) : (listed i x0 (x1 := x1) j).toNat < 32768 := clip_lt (hM _)

include hx hM in
theorem oIdx_at (z z' : Fin 1) (j : Fin 512) : oIdx i x0 x1 x2 (ix3 z z' j) = listed i x0 (x1 := x1) j := by
  unfold oIdx k0_pay8
  rw [cast_up, pay5_at i x0 hx hM]

include hx hM in
theorem oReidx_at (z z' : Fin 1) (j : Fin 512) :
    oReidx i x0 x1 x2 (ix3 z z' j) = BitVec.ofNat 32 (nth (ents i x0 x1) j).val := by
  unfold oReidx k0_pay9
  rw [cast_up, ← posC_at (nth (ents i x0 x1) j) 0]
  exact chosen i x0 hx hM posC reduces_S512x512_S512_2 rfl shapeCasts_S512x1_S512x1 broadcasts_S512x1_S512x512 0 j

/-- A listed span's start and end, as the kernel computes them. -/
def begOf (w : BitVec 32) : BitVec 32 := IntOp.shrsi .vector w 4#32
def endOf (w : BitVec 32) : BitVec 32 := begOf w + IntOp.andi w 15#32

include hx hM in
theorem pay6_at (z : Fin 1) (j : Fin 512) :
    k0_pay6 posR (maskedC i x0 x1) (rankC i x0 x1 x2) (ix2 z j) = begOf (listed i x0 (x1 := x1) j) :=
  congrArg begOf (pay5_at i x0 hx hM z j)

include hx hM in
theorem pay7_at (z : Fin 1) (j : Fin 512) :
    k0_pay7 posR (maskedC i x0 x1) (rankC i x0 x1 x2) (ix2 z j) = endOf (listed i x0 (x1 := x1) j) :=
  congrArg endOf (pay5_at i x0 hx hM z j)

include hx hM in
theorem oBeg_at (z z' : Fin 1) (j : Fin 512) : oBeg i x0 x1 x2 (ix3 z z' j) = begOf (listed i x0 (x1 := x1) j) := by
  unfold oBeg k0_pay10
  rw [cast_up, pay6_at i x0 hx hM]

include hx hM in
theorem oEnd_at (z z' : Fin 1) (j : Fin 512) : oEnd i x0 x1 x2 (ix3 z z' j) = endOf (listed i x0 (x1 := x1) j) := by
  unfold oEnd k0_pay11
  rw [cast_up, pay7_at i x0 hx hM]

include hx hM in
theorem oBegF_at (z z' : Fin 1) (j : Fin 512) :
    oBegF (F := F) i x0 x1 x2 (ix3 z z' j) = FloatOps.sitofp .f32 (begOf (listed i x0 (x1 := x1) j)) := by
  unfold oBegF k0_pay12
  rw [cast_up, ← pay6_at i x0 hx hM 0]
  rfl

include hx hM in
theorem oEndF_at (z z' : Fin 1) (j : Fin 512) :
    oEndF (F := F) i x0 x1 x2 (ix3 z z' j) = FloatOps.sitofp .f32 (endOf (listed i x0 (x1 := x1) j)) := by
  unfold oEndF k0_pay13
  rw [cast_up, ← pay7_at i x0 hx hM 0]
  rfl

theorem oScore_at (z z' : Fin 1) (j : Fin 512) : oScore (F := F) (ix3 z z' j) = Scalar.ofBits .f32 0x00000000#32 := by
  unfold oScore k0_pay14
  rw [cast_up]
  rfl

include hx hM in
theorem oRow_at (z z' : Fin 1) (j : Fin 512) :
    oRow i x0 x1 x2 (ix3 z z' j) = listed i x0 (x1 := x1) j + BitVec.ofNat 32 (i 0).val * 32768#32 := by
  unfold oRow k0_pay15
  rw [cast_up, ← pay5_at i x0 hx hM 0]
  rfl

include hx hM in
theorem oRow_toNat (z z' : Fin 1) (j : Fin 512) :
    (oRow i x0 x1 x2 (ix3 z z' j)).toNat = (listed i x0 (x1 := x1) j).toNat + (i 0).val * 32768 := by
  have h1 := listed_lt i x0 hM j
  have h2 : (i 0).val < 8 := (i 0).isLt
  have hm : (BitVec.ofNat 32 (i 0).val * 32768#32).toNat = (i 0).val * 32768 := by
    rw [BitVec.toNat_mul, BitVec.toNat_ofNat, BitVec.toNat_ofNat]; omega
  rw [oRow_at i x0 hx hM, BitVec.toNat_add, hm]
  omega

/-! ## The masks -/

theorem oSq_at (z : Fin 1) (a b : Fin 512) :
    oSq (F := F) i x0 (ix3 z a b) = if (BitVec.ofNat 32 a.val).slt (lenOf i x0) ∧ (BitVec.ofNat 32 b.val).slt (lenOf i x0)
      then Scalar.ofBits .f32 0x3F800000#32 else Scalar.ofBits .f32 0x00000000#32 := by
  unfold oSq k0_pay17
  rw [cast_sq]
  have ha : iota .tc S512x512 32 [0] iota_S512x512_d0_w32 (ix2 a b) = BitVec.ofNat 32 a.val := by
    show BitVec.ofNat 32 (0 * 512 + a.val) = _
    rw [Nat.zero_mul, Nat.zero_add]
  have hb : iota .tc S512x512 32 [1] iota_S512x512_d1_w32 (ix2 a b) = BitVec.ofNat 32 b.val := by
    show BitVec.ofNat 32 (0 * 512 + b.val) = _
    rw [Nat.zero_mul, Nat.zero_add]
  show Scalar.select (IntOp.andi (IntOp.cmpi .slt (iota .tc S512x512 32 [0] iota_S512x512_d0_w32 (ix2 a b)) (lenOf i x0))
    (IntOp.cmpi .slt (iota .tc S512x512 32 [1] iota_S512x512_d1_w32 (ix2 a b)) (lenOf i x0))) _ _ = _
  rw [ha, hb]
  show Scalar.select (BitVec.ofBool ((BitVec.ofNat 32 a.val).slt (lenOf i x0)) &&& BitVec.ofBool ((BitVec.ofNat 32 b.val).slt (lenOf i x0))) _ _ = _
  cases (BitVec.ofNat 32 a.val).slt (lenOf i x0) <;> cases (BitVec.ofNat 32 b.val).slt (lenOf i x0) <;> simp [Scalar.select] <;> rfl

theorem oTri_at (z : Fin 1) (a b : Fin 512) :
    oTri (F := F) i x0 (ix3 z a b) = if ((BitVec.ofNat 32 a.val).slt (lenOf i x0) ∧ (BitVec.ofNat 32 b.val).slt (lenOf i x0)) ∧ b ≤ a
      then Scalar.ofBits .f32 0x3F800000#32 else Scalar.ofBits .f32 0x00000000#32 := by
  unfold oTri k0_pay1
  rw [cast_sq]
  have ha : iota .tc S512x512 32 [0] iota_S512x512_d0_w32 (ix2 a b) = BitVec.ofNat 32 a.val := by
    show BitVec.ofNat 32 (0 * 512 + a.val) = _
    rw [Nat.zero_mul, Nat.zero_add]
  have hb : iota .tc S512x512 32 [1] iota_S512x512_d1_w32 (ix2 a b) = BitVec.ofNat 32 b.val := by
    show BitVec.ofNat 32 (0 * 512 + b.val) = _
    rw [Nat.zero_mul, Nat.zero_add]
  have hle : (BitVec.ofNat 32 b.val).sle (BitVec.ofNat 32 a.val) = decide (b ≤ a) := by
    have h1 := a.isLt
    have h2 := b.isLt
    rw [BitVec.sle_eq_decide, BitVec.toInt_eq_toNat_cond, BitVec.toInt_eq_toNat_cond, BitVec.toNat_ofNat, BitVec.toNat_ofNat]
    refine decide_eq_decide.2 ?_
    rw [Fin.le_def]
    omega
  show Scalar.select (IntOp.andi (IntOp.andi (IntOp.cmpi .slt (iota .tc S512x512 32 [0] iota_S512x512_d0_w32 (ix2 a b)) (lenOf i x0))
    (IntOp.cmpi .slt (iota .tc S512x512 32 [1] iota_S512x512_d1_w32 (ix2 a b)) (lenOf i x0)))
    (IntOp.cmpi .sle (iota .tc S512x512 32 [1] iota_S512x512_d1_w32 (ix2 a b)) (iota .tc S512x512 32 [0] iota_S512x512_d0_w32 (ix2 a b)))) _ _ = _
  rw [ha, hb]
  show Scalar.select (BitVec.ofBool ((BitVec.ofNat 32 a.val).slt (lenOf i x0)) &&& BitVec.ofBool ((BitVec.ofNat 32 b.val).slt (lenOf i x0))
    &&& BitVec.ofBool ((BitVec.ofNat 32 b.val).sle (BitVec.ofNat 32 a.val))) _ _ = _
  rw [hle]
  by_cases h : b ≤ a <;>
  cases (BitVec.ofNat 32 a.val).slt (lenOf i x0) <;> cases (BitVec.ofNat 32 b.val).slt (lenOf i x0) <;> simp [Scalar.select, h] <;> rfl

end Body

end Cert.GoldSpans
-- ==== Proof.Arrays.lean ====
/-
  The arrays that the TensorCore call leaves, as functions of the gold spans' array and the lengths.
-/
module

public import proofs.«01_k».proof.Proof.Region
public import proofs.«01_k».proof.Proof.SortValue
public import Idealize.ShloMosaic.Lib.Pipeline.Value
public import Idealize.ShloMosaic.Lib.Pipeline.ValueKit

@[expose] public section

set_option maxRecDepth 16384

noncomputable section

namespace Cert.GoldSpans

open Cert.KernelIdeal Cert.KernelIdeal.Gen
open Idealize.ShloMosaic Idealize.ShloMosaic.TcCoe
open Idealize.ShloMosaic.Pipeline (Dat)

variable {F : FTy → Type} [FloatOps F]
variable (V : Dev nD → Valuation τ sig (Elt F)) (c : Dev nD)

/-- The grid's point of a batch. -/
def pt (b : Fin 8) : Fin cfg0.N := ⟨b.val, by rw [show cfg0.N = 8 from N_0]; exact b.isLt⟩

theorem coords_val (t : Fin cfg0.N) : (grid0.coords t 0).val = t.val :=
  (by decide +kernel : ∀ t : Fin grid0.N, (grid0.coords t 0).val = t.val) t

/-- The batch of a point. -/
def batch (t : Fin cfg0.N) : Fin 8 := ⟨t.val, lt_of_lt_of_eq t.isLt N_0⟩

theorem idx_in0 : ∀ t : Fin grid0.N, win0_0.index t 0 = 0 := by decide +kernel
theorem idx_in1 : ∀ t : Fin grid0.N, win0_1.index t 0 = t.val ∧ win0_1.index t 1 = 0 ∧ win0_1.index t 2 = 0 := by decide +kernel
theorem idx_in2 : ∀ t : Fin grid0.N, win0_2.index t 0 = t.val ∧ win0_2.index t 1 = 0 ∧ win0_2.index t 2 = 0 := by decide +kernel

theorem blockAt0_at (t : Fin cfg0.N) (b : Fin 8) : blockAt V c 0 t (ix1 b) = V c (Proc.devRef .tc main_arg5) (ix1 b) := by
  unfold blockAt
  blk_ext [idx_in0 t]

theorem blockAt1_at (t : Fin cfg0.N) (q : Fin 512) (k : Fin 2) :
    blockAt V c 1 t (ix3 0 q k) = V c (Proc.devRef .tc main_arg4) (ix3 (batch t) q k) := by
  unfold blockAt
  blk_ext [idx_in1 t, batch]

theorem blockAt2_at (t : Fin cfg0.N) (k : Fin 2) (q : Fin 512) :
    blockAt V c 2 t (ix3 0 k q) = V c (Proc.devRef .tc main_v0) (ix3 (batch t) k q) := by
  unfold blockAt
  blk_ext [idx_in2 t, batch]

/-! ## Each output's array, batch by batch -/

theorem idx_out3 : ∀ t : Fin grid0.N, win0_3.index t 0 = t.val ∧ win0_3.index t 1 = 0 ∧ win0_3.index t 2 = 0 := by decide +kernel
theorem arr3 : (sortDat V c).arrAt 3 cfg0.N = fun i => (sortDat V c).after 3 (pt (i 0)) (ix3 0 0 (i 2)) := by
  refine (sortDat V c).arrAt_eq_of_covers 3 _ (by decide +kernel) fun t hf y => ?_
  blk_simp
  have hb : pt ((win0_3.blk t).view.emb y 0) = t := Fin.ext (by
    show ((win0_3.blk t).view.emb y 0).val = t.val
    blk_simp
    exact (idx_out3 t).1)
  rw [hb]
  congr 1
  blk_ext [idx_out3 t]

theorem idx_out4 : ∀ t : Fin grid0.N, win0_4.index t 0 = t.val ∧ win0_4.index t 1 = 0 ∧ win0_4.index t 2 = 0 := by decide +kernel
theorem arr4 : (sortDat V c).arrAt 4 cfg0.N = fun i => (sortDat V c).after 4 (pt (i 0)) (ix3 0 0 (i 2)) := by
  refine (sortDat V c).arrAt_eq_of_covers 4 _ (by decide +kernel) fun t hf y => ?_
  blk_simp
  have hb : pt ((win0_4.blk t).view.emb y 0) = t := Fin.ext (by
    show ((win0_4.blk t).view.emb y 0).val = t.val
    blk_simp
    exact (idx_out4 t).1)
  rw [hb]
  congr 1
  blk_ext [idx_out4 t]

theorem idx_out5 : ∀ t : Fin grid0.N, win0_5.index t 0 = t.val ∧ win0_5.index t 1 = 0 ∧ win0_5.index t 2 = 0 := by decide +kernel
theorem arr5 : (sortDat V c).arrAt 5 cfg0.N = fun i => (sortDat V c).after 5 (pt (i 0)) (ix3 0 0 (i 2)) := by
  refine (sortDat V c).arrAt_eq_of_covers 5 _ (by decide +kernel) fun t hf y => ?_
  blk_simp
  have hb : pt ((win0_5.blk t).view.emb y 0) = t := Fin.ext (by
    show ((win0_5.blk t).view.emb y 0).val = t.val
    blk_simp
    exact (idx_out5 t).1)
  rw [hb]
  congr 1
  blk_ext [idx_out5 t]

theorem idx_out6 : ∀ t : Fin grid0.N, win0_6.index t 0 = t.val ∧ win0_6.index t 1 = 0 ∧ win0_6.index t 2 = 0 := by decide +kernel
theorem arr6 : (sortDat V c).arrAt 6 cfg0.N = fun i => (sortDat V c).after 6 (pt (i 0)) (ix3 0 0 (i 2)) := by
  refine (sortDat V c).arrAt_eq_of_covers 6 _ (by decide +kernel) fun t hf y => ?_
  blk_simp
  have hb : pt ((win0_6.blk t).view.emb y 0) = t := Fin.ext (by
    show ((win0_6.blk t).view.emb y 0).val = t.val
    blk_simp
    exact (idx_out6 t).1)
  rw [hb]
  congr 1
  blk_ext [idx_out6 t]

theorem idx_out7 : ∀ t : Fin grid0.N, win0_7.index t 0 = t.val ∧ win0_7.index t 1 = 0 ∧ win0_7.index t 2 = 0 := by decide +kernel
theorem arr7 : (sortDat V c).arrAt 7 cfg0.N = fun i => (sortDat V c).after 7 (pt (i 0)) (ix3 0 0 (i 2)) := by
  refine (sortDat V c).arrAt_eq_of_covers 7 _ (by decide +kernel) fun t hf y => ?_
  blk_simp
  have hb : pt ((win0_7.blk t).view.emb y 0) = t := Fin.ext (by
    show ((win0_7.blk t).view.emb y 0).val = t.val
    blk_simp
    exact (idx_out7 t).1)
  rw [hb]
  congr 1
  blk_ext [idx_out7 t]

theorem idx_out8 : ∀ t : Fin grid0.N, win0_8.index t 0 = t.val ∧ win0_8.index t 1 = 0 ∧ win0_8.index t 2 = 0 := by decide +kernel
theorem arr8 : (sortDat V c).arrAt 8 cfg0.N = fun i => (sortDat V c).after 8 (pt (i 0)) (ix3 0 0 (i 2)) := by
  refine (sortDat V c).arrAt_eq_of_covers 8 _ (by decide +kernel) fun t hf y => ?_
  blk_simp
  have hb : pt ((win0_8.blk t).view.emb y 0) = t := Fin.ext (by
    show ((win0_8.blk t).view.emb y 0).val = t.val
    blk_simp
    exact (idx_out8 t).1)
  rw [hb]
  congr 1
  blk_ext [idx_out8 t]

theorem idx_out9 : ∀ t : Fin grid0.N, win0_9.index t 0 = t.val ∧ win0_9.index t 1 = 0 ∧ win0_9.index t 2 = 0 := by decide +kernel
theorem arr9 : (sortDat V c).arrAt 9 cfg0.N = fun i => (sortDat V c).after 9 (pt (i 0)) (ix3 0 0 (i 2)) := by
  refine (sortDat V c).arrAt_eq_of_covers 9 _ (by decide +kernel) fun t hf y => ?_
  blk_simp
  have hb : pt ((win0_9.blk t).view.emb y 0) = t := Fin.ext (by
    show ((win0_9.blk t).view.emb y 0).val = t.val
    blk_simp
    exact (idx_out9 t).1)
  rw [hb]
  congr 1
  blk_ext [idx_out9 t]

theorem idx_out10 : ∀ t : Fin grid0.N, win0_10.index t 0 = t.val ∧ win0_10.index t 1 = 0 ∧ win0_10.index t 2 = 0 := by decide +kernel
theorem arr10 : (sortDat V c).arrAt 10 cfg0.N = fun i => (sortDat V c).after 10 (pt (i 0)) (ix3 0 0 (i 2)) := by
  refine (sortDat V c).arrAt_eq_of_covers 10 _ (by decide +kernel) fun t hf y => ?_
  blk_simp
  have hb : pt ((win0_10.blk t).view.emb y 0) = t := Fin.ext (by
    show ((win0_10.blk t).view.emb y 0).val = t.val
    blk_simp
    exact (idx_out10 t).1)
  rw [hb]
  congr 1
  blk_ext [idx_out10 t]

theorem idx_out11 : ∀ t : Fin grid0.N, win0_11.index t 0 = t.val ∧ win0_11.index t 1 = 0 ∧ win0_11.index t 2 = 0 := by decide +kernel
theorem arr11 : (sortDat V c).arrAt 11 cfg0.N = fun i => (sortDat V c).after 11 (pt (i 0)) (ix3 0 (i 1) (i 2)) := by
  refine (sortDat V c).arrAt_eq_of_covers 11 _ (by decide +kernel) fun t hf y => ?_
  blk_simp
  have hb : pt ((win0_11.blk t).view.emb y 0) = t := Fin.ext (by
    show ((win0_11.blk t).view.emb y 0).val = t.val
    blk_simp
    exact (idx_out11 t).1)
  rw [hb]
  congr 1
  blk_ext [idx_out11 t]

theorem idx_out12 : ∀ t : Fin grid0.N, win0_12.index t 0 = t.val ∧ win0_12.index t 1 = 0 ∧ win0_12.index t 2 = 0 := by decide +kernel
theorem arr12 : (sortDat V c).arrAt 12 cfg0.N = fun i => (sortDat V c).after 12 (pt (i 0)) (ix3 0 (i 1) (i 2)) := by
  refine (sortDat V c).arrAt_eq_of_covers 12 _ (by decide +kernel) fun t hf y => ?_
  blk_simp
  have hb : pt ((win0_12.blk t).view.emb y 0) = t := Fin.ext (by
    show ((win0_12.blk t).view.emb y 0).val = t.val
    blk_simp
    exact (idx_out12 t).1)
  rw [hb]
  congr 1
  blk_ext [idx_out12 t]

end Cert.GoldSpans
-- ==== Proof.Results.lean ====
/-
  The run's results and arguments at its end, as functions of its arguments.
-/
module

public import proofs.«01_k».proof.Proof.Main
public import proofs.«01_k».proof.Proof.Arrays
public import Idealize.ShloMosaic.Lib.StableHlo.Run

@[expose] public section

set_option maxRecDepth 16384

noncomputable section

namespace Cert.GoldSpans

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (d : Dev nD)

/-! ## Buffers that a step leaves alone -/

theorem V5_off (r : Ref sig .tc) (h5 : r ≠ main_v5) (h6 : r ≠ main_v6) (h7 : r ≠ main_v7) (h8 : r ≠ main_v8) (h9 : r ≠ main_v9)
    (h10 : r ≠ main_v10) (h11 : r ≠ main_v11) (h12 : r ≠ main_v12) (h4 : r ≠ main_v4) (h3 : r ≠ main_v3) (h2 : r ≠ main_v2) :
    V5 m d (Proc.devRef .tc r) = V2 m d (Proc.devRef .tc r) := by
  unfold V5
  rw [StableHlo.reshape_result_ne _ _ _ _ _ _ _ h12, StableHlo.reshape_result_ne _ _ _ _ _ _ _ h11,
    StableHlo.reshape_result_ne _ _ _ _ _ _ _ h10, StableHlo.reshape_result_ne _ _ _ _ _ _ _ h9,
    StableHlo.reshape_result_ne _ _ _ _ _ _ _ h8, StableHlo.reshape_result_ne _ _ _ _ _ _ _ h7,
    StableHlo.reshape_result_ne _ _ _ _ _ _ _ h6, StableHlo.reshape_result_ne _ _ _ _ _ _ _ h5]
  unfold V4
  rw [Function.update_of_ne (StableHlo.devRef_ne_of_ne h4)]
  unfold V3
  rw [StableHlo.reshape_result_ne _ _ _ _ _ _ _ h3, StableHlo.reshape_result_ne _ _ _ _ _ _ _ h2]

theorem V4_V2 (r : Ref sig .tc) (h4 : r ≠ main_v4) (h3 : r ≠ main_v3) (h2 : r ≠ main_v2) :
    V4 m d (Proc.devRef .tc r) = V2 m d (Proc.devRef .tc r) := by
  unfold V4
  rw [Function.update_of_ne (StableHlo.devRef_ne_of_ne h4)]
  unfold V3
  rw [StableHlo.reshape_result_ne _ _ _ _ _ _ _ h3, StableHlo.reshape_result_ne _ _ _ _ _ _ _ h2]

theorem V1_off (r : Ref sig .tc) (h : r ≠ main_v0) : V1 m d (Proc.devRef .tc r) = m (d, Proc.devRef .tc r) := by
  unfold V1
  rw [StableHlo.unary_result_ne _ _ _ _ _ _ h]

theorem V1_swap : V1 m d (Proc.devRef .tc main_v0) = transpose S8x2x512 [0, 2, 1] (m (d, Proc.devRef .tc main_arg4)) transposes_S8x512x2_S8x2x512_0_2_1 := by
  unfold V1
  rw [StableHlo.unary_result']

theorem V2_arr (w : Fin cfg0.W) : V2 m d (Proc.devRef .tc (Pipeline.arrRef spec0 w)) = (sortDat (V1 m) d).arrAt w cfg0.N := by
  unfold V2 afterSort
  exact Pipeline.afterRegion_arr (sortDat (V1 m) d) (V1 m d) launch0.win.arr_inj w

theorem V2_off (r : Ref sig .tc) (h : ∀ w, Pipeline.arrRef spec0 w = r → (cfg0.win w).isOut = false) :
    V2 m d (Proc.devRef .tc r) = V1 m d (Proc.devRef .tc r) := by
  unfold V2 afterSort
  exact Pipeline.afterRegion_keeps (sortDat (V1 m) d) (V1 m d) launch0.win.arr_inj (fun w => sortDat_A (V1 m) d w) r h

/-- An argument keeps its contents. -/
theorem V5_arg0 : V5 m d (Proc.devRef .tc main_arg0) = m (d, Proc.devRef .tc main_arg0) := by
  rw [V5_off m d _ (by decide) (by decide) (by decide) (by decide) (by decide) (by decide) (by decide) (by decide) (by decide) (by decide) (by decide),
    V2_off m d _ (by decide +kernel), V1_off m d _ (by decide)]

theorem V5_arg1 : V5 m d (Proc.devRef .tc main_arg1) = m (d, Proc.devRef .tc main_arg1) := by
  rw [V5_off m d _ (by decide) (by decide) (by decide) (by decide) (by decide) (by decide) (by decide) (by decide) (by decide) (by decide) (by decide),
    V2_off m d _ (by decide +kernel), V1_off m d _ (by decide)]
theorem V5_arg2 : V5 m d (Proc.devRef .tc main_arg2) = m (d, Proc.devRef .tc main_arg2) := by
  rw [V5_off m d _ (by decide) (by decide) (by decide) (by decide) (by decide) (by decide) (by decide) (by decide) (by decide) (by decide) (by decide),
    V2_off m d _ (by decide +kernel), V1_off m d _ (by decide)]
theorem V5_arg3 : V5 m d (Proc.devRef .tc main_arg3) = m (d, Proc.devRef .tc main_arg3) := by
  rw [V5_off m d _ (by decide) (by decide) (by decide) (by decide) (by decide) (by decide) (by decide) (by decide) (by decide) (by decide) (by decide),
    V2_off m d _ (by decide +kernel), V1_off m d _ (by decide)]
theorem V5_arg4 : V5 m d (Proc.devRef .tc main_arg4) = m (d, Proc.devRef .tc main_arg4) := by
  rw [V5_off m d _ (by decide) (by decide) (by decide) (by decide) (by decide) (by decide) (by decide) (by decide) (by decide) (by decide) (by decide),
    V2_off m d _ (by decide +kernel), V1_off m d _ (by decide)]
theorem V5_arg5 : V5 m d (Proc.devRef .tc main_arg5) = m (d, Proc.devRef .tc main_arg5) := by
  rw [V5_off m d _ (by decide) (by decide) (by decide) (by decide) (by decide) (by decide) (by decide) (by decide) (by decide) (by decide) (by decide),
    V2_off m d _ (by decide +kernel), V1_off m d _ (by decide)]
theorem V5_arg6 : V5 m d (Proc.devRef .tc main_arg6) = m (d, Proc.devRef .tc main_arg6) := by
  rw [V5_off m d _ (by decide) (by decide) (by decide) (by decide) (by decide) (by decide) (by decide) (by decide) (by decide) (by decide) (by decide),
    V2_off m d _ (by decide +kernel), V1_off m d _ (by decide)]

/-! ## The batches' entries -/

/-- Batch `b`'s number of spans. -/
def lenAt (b : Fin 8) : BitVec 32 := m (d, Proc.devRef .tc main_arg5) (ix1 b)
/-- Span `q` of batch `b`: its start and its end. -/
def fromAt (b : Fin 8) (q : Fin 512) : BitVec 32 := m (d, Proc.devRef .tc main_arg4) (ix3 b q 0)
def toAt (b : Fin 8) (q : Fin 512) : BitVec 32 := m (d, Proc.devRef .tc main_arg4) (ix3 b q 1)
/-- Batch `b`'s entries. -/
def entAt (b : Fin 8) : Fin 512 → BitVec 32 := entry (lenAt m d b) (fromAt m d b) (toAt m d b)
/-- The number listed `j`-th in batch `b`. -/
def listAt (b : Fin 8) (j : Fin 512) : BitVec 32 := clip (entAt m d b (nth (entAt m d b) j))

theorem lenOf_pt (b : Fin 8) : lenOf (grid0.coords (pt b)) (blockAt (V1 m) d 0 (pt b)) = lenAt m d b := by
  have hc : (grid0.coords (pt b)) 0 = b := Fin.ext (coords_val (pt b))
  show blockAt (V1 m) d 0 (pt b) (ix1 ((grid0.coords (pt b)) 0)) = _
  rw [hc, blockAt0_at, V1_off m d _ (by decide)]
  rfl

theorem batch_pt (b : Fin 8) : batch (pt b) = b := rfl

theorem ents_pt (b : Fin 8) : ents (grid0.coords (pt b)) (blockAt (V1 m) d 0 (pt b)) (blockAt (V1 m) d 1 (pt b)) = entAt m d b := by
  unfold ents entAt
  rw [lenOf_pt]
  congr 1
  · funext q
    rw [blockAt1_at, V1_off m d _ (by decide)]
    rfl
  · funext q
    rw [blockAt1_at, V1_off m d _ (by decide)]
    rfl

theorem listed_pt (b : Fin 8) (j : Fin 512) :
    listed (grid0.coords (pt b)) (blockAt (V1 m) d 0 (pt b)) (x1 := blockAt (V1 m) d 1 (pt b)) j = listAt m d b j := by
  unfold listed listAt
  rw [ents_pt]

/-- The transposed spans' block against the spans' block. -/
theorem swapped (b : Fin 8) (k : Fin 2) (q : Fin 512) :
    blockAt (V1 m) d 2 (pt b) (ix3 0 k q) = blockAt (V1 m) d 1 (pt b) (ix3 0 q k) := by
  rw [blockAt2_at, blockAt1_at, V1_swap, V1_off m d _ (by decide)]
  simp only [pointwise]

/-- Every span's number is in range. -/
def Tame : Prop := ∀ (d : Dev nD) (b : Fin 8) (q : Fin 512), (spanNo (fromAt m d b q) (toAt m d b q)).toNat < 32768

variable {m}
theorem Tame.entAt_le (hT : Tame m) (b : Fin 8) (q : Fin 512) : (entAt m d b q).toNat ≤ 32768 := entry_le (fun q => hT d b q) q

theorem Tame.ents_le (hT : Tame m) (b : Fin 8) (q : Fin 512) :
    (ents (grid0.coords (pt b)) (blockAt (V1 m) d 0 (pt b)) (blockAt (V1 m) d 1 (pt b)) q).toNat ≤ 32768 := by
  rw [ents_pt]; exact hT.entAt_le d b q

theorem Tame.listAt_lt (hT : Tame m) (b : Fin 8) (j : Fin 512) : (listAt m d b j).toNat < 32768 := clip_lt (hT.entAt_le d b _)

/-! ## The call's arrays -/

theorem idx_arr (hT : Tame m) (b : Fin 8) (z : Fin 1) (j : Fin 512) : V2 m d (Proc.devRef .tc main_v1_0) (ix3 b z j) = listAt m d b j := by
  refine (congrFun (V2_arr m d 3) (ix3 b z j)).trans ((congrFun (arr3 (V1 m) d) _).trans ?_)
  show (sortDat (V1 m) d).after 3 (pt b) (ix3 0 0 j) = _
  rw [after_3]
  exact (oIdx_at _ _ (swapped m d b) (hT.ents_le d b) 0 0 j).trans (listed_pt m d b j)

theorem reidx_arr (hT : Tame m) (b : Fin 8) (z : Fin 1) (j : Fin 512) : V2 m d (Proc.devRef .tc main_v1_1) (ix3 b z j) = BitVec.ofNat 32 (nth (entAt m d b) j).val := by
  refine (congrFun (V2_arr m d 4) (ix3 b z j)).trans ((congrFun (arr4 (V1 m) d) _).trans ?_)
  show (sortDat (V1 m) d).after 4 (pt b) (ix3 0 0 j) = _
  rw [after_4]
  exact (oReidx_at _ _ (swapped m d b) (hT.ents_le d b) 0 0 j).trans (by rw [ents_pt])

theorem beg_arr (hT : Tame m) (b : Fin 8) (z : Fin 1) (j : Fin 512) : V2 m d (Proc.devRef .tc main_v1_2) (ix3 b z j) = begOf (listAt m d b j) := by
  refine (congrFun (V2_arr m d 5) (ix3 b z j)).trans ((congrFun (arr5 (V1 m) d) _).trans ?_)
  show (sortDat (V1 m) d).after 5 (pt b) (ix3 0 0 j) = _
  rw [after_5]
  exact (oBeg_at _ _ (swapped m d b) (hT.ents_le d b) 0 0 j).trans (congrArg begOf (listed_pt m d b j))

theorem end_arr (hT : Tame m) (b : Fin 8) (z : Fin 1) (j : Fin 512) : V2 m d (Proc.devRef .tc main_v1_3) (ix3 b z j) = endOf (listAt m d b j) := by
  refine (congrFun (V2_arr m d 6) (ix3 b z j)).trans ((congrFun (arr6 (V1 m) d) _).trans ?_)
  show (sortDat (V1 m) d).after 6 (pt b) (ix3 0 0 j) = _
  rw [after_6]
  exact (oEnd_at _ _ (swapped m d b) (hT.ents_le d b) 0 0 j).trans (congrArg endOf (listed_pt m d b j))

theorem begF_arr (hT : Tame m) (b : Fin 8) (z : Fin 1) (j : Fin 512) : V2 m d (Proc.devRef .tc main_v1_4) (ix3 b z j) = FloatOps.sitofp .f32 (begOf (listAt m d b j)) := by
  refine (congrFun (V2_arr m d 7) (ix3 b z j)).trans ((congrFun (arr7 (V1 m) d) _).trans ?_)
  show (sortDat (V1 m) d).after 7 (pt b) (ix3 0 0 j) = _
  rw [after_7]
  exact (oBegF_at _ _ (swapped m d b) (hT.ents_le d b) 0 0 j).trans (congrArg (fun w => FloatOps.sitofp .f32 (begOf w)) (listed_pt m d b j))

theorem endF_arr (hT : Tame m) (b : Fin 8) (z : Fin 1) (j : Fin 512) : V2 m d (Proc.devRef .tc main_v1_5) (ix3 b z j) = FloatOps.sitofp .f32 (endOf (listAt m d b j)) := by
  refine (congrFun (V2_arr m d 8) (ix3 b z j)).trans ((congrFun (arr8 (V1 m) d) _).trans ?_)
  show (sortDat (V1 m) d).after 8 (pt b) (ix3 0 0 j) = _
  rw [after_8]
  exact (oEndF_at _ _ (swapped m d b) (hT.ents_le d b) 0 0 j).trans (congrArg (fun w => FloatOps.sitofp .f32 (endOf w)) (listed_pt m d b j))

theorem row_arr (hT : Tame m) (b : Fin 8) (z : Fin 1) (j : Fin 512) :
    (V2 m d (Proc.devRef .tc main_v1_7) (ix3 b z j)).toNat = (listAt m d b j).toNat + b.val * 32768 := by
  have hc : ((grid0.coords (pt b)) 0).val = b.val := coords_val (pt b)
  have e : V2 m d (Proc.devRef .tc main_v1_7) (ix3 b z j) = oRow (grid0.coords (pt b)) (blockAt (V1 m) d 0 (pt b)) (blockAt (V1 m) d 1 (pt b)) (blockAt (V1 m) d 2 (pt b)) (ix3 0 0 j) := by
    refine (congrFun (V2_arr m d 10) (ix3 b z j)).trans ((congrFun (arr10 (V1 m) d) _).trans ?_)
    show (sortDat (V1 m) d).after 10 (pt b) (ix3 0 0 j) = _
    rw [after_10]
  rw [e]
  refine (oRow_toNat _ _ (swapped m d b) (hT.ents_le d b) 0 0 j).trans ?_
  rw [listed_pt, hc]

theorem score_arr (b : Fin 8) (z : Fin 1) (j : Fin 512) :
    V2 m d (Proc.devRef .tc main_v1_6) (ix3 b z j) = Scalar.ofBits .f32 0x00000000#32 := by
  refine (congrFun (V2_arr m d 9) (ix3 b z j)).trans ((congrFun (arr9 (V1 m) d) _).trans ?_)
  show (sortDat (V1 m) d).after 9 (pt b) (ix3 0 0 j) = _
  rw [after_9]
  exact oScore_at 0 0 j

theorem sq_arr (b : Fin 8) (i j : Fin 512) :
    V2 m d (Proc.devRef .tc main_v1_8) (ix3 b i j)
      = if (BitVec.ofNat 32 i.val).slt (lenAt m d b) ∧ (BitVec.ofNat 32 j.val).slt (lenAt m d b)
        then Scalar.ofBits .f32 0x3F800000#32 else Scalar.ofBits .f32 0x00000000#32 := by
  refine (congrFun (V2_arr m d 11) (ix3 b i j)).trans ((congrFun (arr11 (V1 m) d) _).trans ?_)
  show (sortDat (V1 m) d).after 11 (pt b) (ix3 0 i j) = _
  rw [after_11]
  refine (oSq_at _ _ 0 i j).trans ?_
  rw [lenOf_pt]

theorem tri_arr (b : Fin 8) (i j : Fin 512) :
    V2 m d (Proc.devRef .tc main_v1_9) (ix3 b i j)
      = if ((BitVec.ofNat 32 i.val).slt (lenAt m d b) ∧ (BitVec.ofNat 32 j.val).slt (lenAt m d b)) ∧ j ≤ i
        then Scalar.ofBits .f32 0x3F800000#32 else Scalar.ofBits .f32 0x00000000#32 := by
  refine (congrFun (V2_arr m d 12) (ix3 b i j)).trans ((congrFun (arr12 (V1 m) d) _).trans ?_)
  show (sortDat (V1 m) d).after 12 (pt b) (ix3 0 i j) = _
  rw [after_12]
  refine (oTri_at _ _ 0 i j).trans ?_
  rw [lenOf_pt]

/-! ## The gather -/

/-- The list's entry for slot `j` of batch `b`. -/
theorem num_at (hT : Tame m) (b : Fin 8) (j : Fin 512) (n : Fin 4096) (hn : n.val = b.val * 512 + j.val) :
    ((held0 m).num d (ix1 n) : BitVec 32).toNat = (listAt m d b j).toNat + b.val * 32768 := by
  show (V3 m d rN (ix1 n) : BitVec 32).toNat = _
  have e : V3 m d rN (ix1 n) = V2 m d (Proc.devRef .tc main_v1_7) (ix3 b 0 j) := by
    unfold V3
    rw [StableHlo.reshape_result', StableHlo.reshape_result_ne _ _ _ _ _ _ _ (by decide)]
    show shapeCast S4096 (V2 m d (Proc.devRef .tc main_v1_7)) shapeCasts_S8x1x512_S4096 (ix1 n) = _
    simp only [pointwise]
    congr 1
    have h1 := j.isLt
    refine congrArg₂ (fun x y => ix3 x 0 y) (Fin.ext ?_) (Fin.ext ?_)
    · show n.val / 512 = b.val; omega
    · show n.val % 512 = j.val; omega
  rw [e]
  exact row_arr d hT b 0 j

theorem inRange (hT : Tame m) : (held0 m).InRange := fun d n => by
  have hn : (n 0).val < 4096 := (n 0).isLt
  have e := num_at d hT ⟨(n 0).val / 512, by omega⟩ ⟨(n 0).val % 512, by omega⟩ (n 0) (by
    show (n 0).val = (n 0).val / 512 * 512 + (n 0).val % 512; omega)
  have hl := hT.listAt_lt d ⟨(n 0).val / 512, by omega⟩ ⟨(n 0).val % 512, by omega⟩
  have hi : n = ix1 (n 0) := eq_ix1 n
  rw [hi]
  refine lt_of_eq_of_lt e ?_
  show _ + (n 0).val / 512 * 32768 < 262144
  omega

/-- The table's row `n` is the vector at its batch, its start and its length. -/
theorem tab_at (n : Fin 262144) (k : Fin 128) :
    (held0 m).tab d (ix2 n k) = m (d, Proc.devRef .tc main_arg0) (ix4 ⟨n.val / 32768, by omega⟩ ⟨n.val / 16 % 2048, by omega⟩ ⟨n.val % 16, by omega⟩ k) := by
  show V3 m d rT (ix2 n k) = _
  unfold V3
  rw [StableHlo.reshape_result_ne _ _ _ _ _ _ _ (by decide), StableHlo.reshape_result', V2_off m d _ (by decide +kernel), V1_off m d _ (by decide)]
  show shapeCast S262144x128 (m (d, Proc.devRef .tc main_arg0)) shapeCasts_S8x2048x16x128_S262144x128 (ix2 n k) = _
  simp only [pointwise]

theorem gath_at (hT : Tame m) (b : Fin 8) (j : Fin 512) (k : Fin 128) (n : Fin 4096) (hn : n.val = b.val * 512 + j.val) :
    V4 m d rG (ix2 n k) = m (d, Proc.devRef .tc main_arg0)
      (ix4 b ⟨(listAt m d b j).toNat / 16, by have := hT.listAt_lt d b j; omega⟩ ⟨(listAt m d b j).toNat % 16, by omega⟩ k) := by
  rw [V4_new]
  have e := num_at d hT b j n hn
  have hl := hT.listAt_lt d b j
  show (held0 m).tab d (ix2 (rowAt ((held0 m).num d (ix1 n))) k) = _
  have hr : (rowAt ((held0 m).num d (ix1 n))).val = (listAt m d b j).toNat + b.val * 32768 := by
    show ((held0 m).num d (ix1 n) : BitVec 32).toNat % 262144 = _
    rw [e]
    omega
  rw [tab_at]
  congr 1
  have hb := b.isLt
  have c1 : (⟨(rowAt ((held0 m).num d (ix1 n))).val / 32768, by omega⟩ : Fin 8) = b := Fin.ext (by
    show (rowAt ((held0 m).num d (ix1 n))).val / 32768 = b.val; omega)
  have c2 : (⟨(rowAt ((held0 m).num d (ix1 n))).val / 16 % 2048, by omega⟩ : Fin 2048) = ⟨(listAt m d b j).toNat / 16, by omega⟩ := Fin.ext (by
    show (rowAt ((held0 m).num d (ix1 n))).val / 16 % 2048 = (listAt m d b j).toNat / 16; omega)
  have c3 : (⟨(rowAt ((held0 m).num d (ix1 n))).val % 16, by omega⟩ : Fin 16) = ⟨(listAt m d b j).toNat % 16, by omega⟩ := Fin.ext (by
    show (rowAt ((held0 m).num d (ix1 n))).val % 16 = (listAt m d b j).toNat % 16; omega)
  rw [c1, c2, c3]

/-! ## The results -/

theorem vecs_end (hT : Tame m) (b : Fin 8) (j : Fin 512) (k : Fin 128) : V5 m d (Proc.devRef .tc main_v5) (ix3 b j k) = m (d, Proc.devRef .tc main_arg0)
      (ix4 b ⟨(listAt m d b j).toNat / 16, by have := hT.listAt_lt d b j; omega⟩ ⟨(listAt m d b j).toNat % 16, by omega⟩ k) := by
  unfold V5
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result']
  show shapeCast S8x512x128 (V4 m d rG) shapeCasts_S4096x128_S8x512x128 (ix3 b j k) = _
  simp only [pointwise]
  exact gath_at d hT b j k _ rfl

theorem score_end (b : Fin 8) (j : Fin 512) : V5 m d (Proc.devRef .tc main_v6) (ix3 b j 0) = Scalar.ofBits .f32 0x00000000#32 := by
  unfold V5
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result', StableHlo.reshape_result_ne _ _ _ _ _ _ _ (by decide), V4_V2 m d _ (by decide) (by decide) (by decide)]
  show shapeCast S8x512x1 (V2 m d (Proc.devRef .tc main_v1_6)) shapeCasts_S8x1x512_S8x512x1 (ix3 b j 0) = _
  simp only [pointwise]
  exact score_arr d b 0 j

theorem begF_end (hT : Tame m) (b : Fin 8) (j : Fin 512) : V5 m d (Proc.devRef .tc main_v7) (ix3 b j 0) = FloatOps.sitofp .f32 (begOf (listAt m d b j)) := by
  unfold V5
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result', StableHlo.reshape_result_ne _ _ _ _ _ _ _ (by decide), StableHlo.reshape_result_ne _ _ _ _ _ _ _ (by decide), V4_V2 m d _ (by decide) (by decide) (by decide)]
  show shapeCast S8x512x1 (V2 m d (Proc.devRef .tc main_v1_4)) shapeCasts_S8x1x512_S8x512x1 (ix3 b j 0) = _
  simp only [pointwise]
  exact begF_arr d hT b 0 j

theorem endF_end (hT : Tame m) (b : Fin 8) (j : Fin 512) : V5 m d (Proc.devRef .tc main_v8) (ix3 b j 0) = FloatOps.sitofp .f32 (endOf (listAt m d b j)) := by
  unfold V5
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result', StableHlo.reshape_result_ne _ _ _ _ _ _ _ (by decide), StableHlo.reshape_result_ne _ _ _ _ _ _ _ (by decide), StableHlo.reshape_result_ne _ _ _ _ _ _ _ (by decide), V4_V2 m d _ (by decide) (by decide) (by decide)]
  show shapeCast S8x512x1 (V2 m d (Proc.devRef .tc main_v1_5)) shapeCasts_S8x1x512_S8x512x1 (ix3 b j 0) = _
  simp only [pointwise]
  exact endF_arr d hT b 0 j

theorem beg_end (hT : Tame m) (b : Fin 8) (j : Fin 512) : V5 m d (Proc.devRef .tc main_v9) (ix2 b j) = begOf (listAt m d b j) := by
  unfold V5
  rw [StableHlo.reshape_result_ne _ _ _ _ _ _ _ (by decide), StableHlo.reshape_result_ne _ _ _ _ _ _ _ (by decide), StableHlo.reshape_result_ne _ _ _ _ _ _ _ (by decide), StableHlo.reshape_result', StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), V4_V2 m d _ (by decide) (by decide) (by decide)]
  show shapeCast S8x512 (V2 m d (Proc.devRef .tc main_v1_2)) shapeCasts_S8x1x512_S8x512 (ix2 b j) = _
  simp only [pointwise]
  exact beg_arr d hT b 0 j

theorem end_end (hT : Tame m) (b : Fin 8) (j : Fin 512) : V5 m d (Proc.devRef .tc main_v10) (ix2 b j) = endOf (listAt m d b j) := by
  unfold V5
  rw [StableHlo.reshape_result_ne _ _ _ _ _ _ _ (by decide), StableHlo.reshape_result_ne _ _ _ _ _ _ _ (by decide), StableHlo.reshape_result', StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), V4_V2 m d _ (by decide) (by decide) (by decide)]
  show shapeCast S8x512 (V2 m d (Proc.devRef .tc main_v1_3)) shapeCasts_S8x1x512_S8x512 (ix2 b j) = _
  simp only [pointwise]
  exact end_arr d hT b 0 j

theorem idx_end (hT : Tame m) (b : Fin 8) (j : Fin 512) : V5 m d (Proc.devRef .tc main_v11) (ix2 b j) = listAt m d b j := by
  unfold V5
  rw [StableHlo.reshape_result_ne _ _ _ _ _ _ _ (by decide), StableHlo.reshape_result', StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), V4_V2 m d _ (by decide) (by decide) (by decide)]
  show shapeCast S8x512 (V2 m d (Proc.devRef .tc main_v1_0)) shapeCasts_S8x1x512_S8x512 (ix2 b j) = _
  simp only [pointwise]
  exact idx_arr d hT b 0 j

theorem reidx_end (hT : Tame m) (b : Fin 8) (j : Fin 512) : V5 m d (Proc.devRef .tc main_v12) (ix2 b j) = BitVec.ofNat 32 (nth (entAt m d b) j).val := by
  unfold V5
  rw [StableHlo.reshape_result', StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), V4_V2 m d _ (by decide) (by decide) (by decide)]
  show shapeCast S8x512 (V2 m d (Proc.devRef .tc main_v1_1)) shapeCasts_S8x1x512_S8x512 (ix2 b j) = _
  simp only [pointwise]
  exact reidx_arr d hT b 0 j

theorem sq_end (b : Fin 8) (i j : Fin 512) :
    V5 m d (Proc.devRef .tc main_v1_8) (ix3 b i j)
      = if (BitVec.ofNat 32 i.val).slt (lenAt m d b) ∧ (BitVec.ofNat 32 j.val).slt (lenAt m d b)
        then Scalar.ofBits .f32 0x3F800000#32 else Scalar.ofBits .f32 0x00000000#32 := by
  rw [V5_off m d _ (by decide) (by decide) (by decide) (by decide) (by decide) (by decide) (by decide) (by decide) (by decide) (by decide) (by decide)]
  exact sq_arr d b i j

theorem tri_end (b : Fin 8) (i j : Fin 512) :
    V5 m d (Proc.devRef .tc main_v1_9) (ix3 b i j)
      = if ((BitVec.ofNat 32 i.val).slt (lenAt m d b) ∧ (BitVec.ofNat 32 j.val).slt (lenAt m d b)) ∧ j ≤ i
        then Scalar.ofBits .f32 0x3F800000#32 else Scalar.ofBits .f32 0x00000000#32 := by
  rw [V5_off m d _ (by decide) (by decide) (by decide) (by decide) (by decide) (by decide) (by decide) (by decide) (by decide) (by decide) (by decide)]
  exact tri_arr d b i j

end Cert.GoldSpans
-- ==== Proof.Ranges.lean ====
/-
  What the preconditions say of the spans at an index.
-/
module

public import proofs.«01_k».proof.Proof.Results
public import proofs.«01_k».proof.Defs

@[expose] public section

set_option maxRecDepth 16384

namespace Cert.GoldSpans

open Idealize.ShloMosaic

/-- A span's start and end are in range. -/
structure Proper (g e : BitVec 32) : Prop where
  low : g.toNat < 2032
  le : g.toNat ≤ e.toNat
  lt : e.toNat < g.toNat + 16

theorem Proper.no_lt {g e : BitVec 32} (h : Proper g e) : (spanNo g e).toNat < 32768 := spanNo_lt h.low h.le h.lt

theorem proper_of_bits {g e : BitVec 32}
    (h : IntOp.andi (IntOp.andi (IntOp.andi (IntOp.cmpi .sge g 0#32) (IntOp.cmpi .slt g 2032#32)) (IntOp.cmpi .sge e g))
      (IntOp.cmpi .slt e (IntOp.addi g 16#32)) = 1#1) : Proper g e := by
  have h' : (BitVec.ofBool ((0#32).sle g) &&& BitVec.ofBool (g.slt 2032#32) &&& BitVec.ofBool (g.sle e) &&& BitVec.ofBool (e.slt (g + 16#32))) = 1#1 := h
  have hb : (0#32).sle g = true ∧ g.slt 2032#32 = true ∧ g.sle e = true ∧ e.slt (g + 16#32) = true := by
    revert h'
    cases (0#32).sle g <;> cases g.slt 2032#32 <;> cases g.sle e <;> cases e.slt (g + 16#32) <;> decide
  obtain ⟨h1, h2, h3, h4⟩ := hb
  have hg := g.isLt
  have he := e.isLt
  simp only [BitVec.sle_eq_decide, BitVec.slt_eq_decide, decide_eq_true_eq, BitVec.toInt_eq_toNat_cond, BitVec.toNat_ofNat,
    BitVec.toNat_add] at h1 h2 h3 h4
  have l1 : g.toNat < 2032 := by omega
  have l2 : (g.toNat + 16 % 2 ^ 32) % 2 ^ 32 = g.toNat + 16 := by omega
  rw [l2] at h4
  exact ⟨l1, by omega, by omega⟩

theorem proper_of_range [Cert.Pre_golds_in_range.Facts] {F : FTy → Type} [FloatOps F] {a0 a1 a2 a3 a4 a5 a6}
    (h : Cert.Pre_golds_in_range.fn (F := F) a0 a1 a2 a3 a4 a5 a6 = fun _ => 1#1) (b : Fin 8) (q : Fin 512) :
    Proper (a4 (ix3 b q 0)) (a4 (ix3 b q 1)) := by
  have e := congrFun h (ix2 b q)
  apply proper_of_bits
  rw [← e]
  have e0 : shapeCast Cert.Pre_golds_in_range.S8x512 (extractStridedSlice Cert.Pre_golds_in_range.S8x512x1 ![0, 0, 0] a4 Cert.Pre_golds_in_range.Facts.slices_S8x512x2_S8x512x1_0_0_0)
      Cert.Pre_golds_in_range.Facts.shapeCasts_S8x512x1_S8x512 (ix2 b q) = a4 (ix3 b q 0) := by
    simp only [pointwise]
    exact congrArg₂ (fun x y => a4 (ix3 x y 0)) (Fin.ext (Nat.zero_add _)) (Fin.ext (Nat.zero_add _))
  have e1 : shapeCast Cert.Pre_golds_in_range.S8x512 (extractStridedSlice Cert.Pre_golds_in_range.S8x512x1 ![0, 0, 1] a4 Cert.Pre_golds_in_range.Facts.slices_S8x512x2_S8x512x1_0_0_1)
      Cert.Pre_golds_in_range.Facts.shapeCasts_S8x512x1_S8x512 (ix2 b q) = a4 (ix3 b q 1) := by
    simp only [pointwise]
    exact congrArg₂ (fun x y => a4 (ix3 x y 1)) (Fin.ext (Nat.zero_add _)) (Fin.ext (Nat.zero_add _))
  rw [← e0, ← e1]
  rfl

theorem proper_of_grids [Cert.Pre_golds_and_grids.Facts] {F : FTy → Type} [FloatOps F] {a0 a1 a2 a3 a4 a5 a6}
    (h : (Cert.Pre_golds_and_grids.fn (F := F) a0 a1 a2 a3 a4 a5 a6).1 = fun _ => 1#1) (b : Fin 8) (q : Fin 512) :
    Proper (a4 (ix3 b q 0)) (a4 (ix3 b q 1)) := by
  have e := congrFun h (ix2 b q)
  apply proper_of_bits
  rw [← e]
  have e0 : shapeCast Cert.Pre_golds_and_grids.S8x512 (extractStridedSlice Cert.Pre_golds_and_grids.S8x512x1 ![0, 0, 0] a4 Cert.Pre_golds_and_grids.Facts.slices_S8x512x2_S8x512x1_0_0_0)
      Cert.Pre_golds_and_grids.Facts.shapeCasts_S8x512x1_S8x512 (ix2 b q) = a4 (ix3 b q 0) := by
    simp only [pointwise]
    exact congrArg₂ (fun x y => a4 (ix3 x y 0)) (Fin.ext (Nat.zero_add _)) (Fin.ext (Nat.zero_add _))
  have e1 : shapeCast Cert.Pre_golds_and_grids.S8x512 (extractStridedSlice Cert.Pre_golds_and_grids.S8x512x1 ![0, 0, 1] a4 Cert.Pre_golds_and_grids.Facts.slices_S8x512x2_S8x512x1_0_0_1)
      Cert.Pre_golds_and_grids.Facts.shapeCasts_S8x512x1_S8x512 (ix2 b q) = a4 (ix3 b q 1) := by
    simp only [pointwise]
    exact congrArg₂ (fun x y => a4 (ix3 x y 1)) (Fin.ext (Nat.zero_add _)) (Fin.ext (Nat.zero_add _))
  rw [← e0, ← e1]
  rfl

/-- Equal as floats, ideally, is equal. -/
theorem eq_of_oeq {x y : Ideal .f32} (h : FloatOps.cmpf .oeq x y = 1#1) : x = y := by
  by_contra hn
  have h' : BitVec.ofBool (decide ((x : EReal) = y)) = 1#1 := h
  rw [decide_eq_false hn] at h'
  exact absurd h' (by decide)

/-- The grid of starts is the grid's first coordinate, -/
theorem starts_of_grids [Cert.Pre_golds_and_grids.Facts] {a0 a1 a2 a3 a4 a5 a6}
    (h : (Cert.Pre_golds_and_grids.fn (F := Ideal) a0 a1 a2 a3 a4 a5 a6).2.1 = fun _ => 1#1) (b : Fin 8) (t : Fin 2048) (w : Fin 16) :
    a2 (ix4 b t w 0) = (FloatOps.sitofp .f32 (BitVec.ofNat 32 t.val) : Ideal .f32) :=
  eq_of_oeq (congrFun h (ix4 b t w 0))

/-- and the grid of ends is the sum of the two. -/
theorem ends_of_grids [Cert.Pre_golds_and_grids.Facts] {a0 a1 a2 a3 a4 a5 a6}
    (h : (Cert.Pre_golds_and_grids.fn (F := Ideal) a0 a1 a2 a3 a4 a5 a6).2.2 = fun _ => 1#1) (b : Fin 8) (t : Fin 2048) (w : Fin 16) :
    a3 (ix4 b t w 0) = (FloatOps.sitofp .f32 (BitVec.ofNat 32 t.val + BitVec.ofNat 32 w.val) : Ideal .f32) :=
  eq_of_oeq (congrFun h (ix4 b t w 0))

end Cert.GoldSpans
-- ==== Proof.Frames.lean ====
/-
  Every run ends with the arguments as they were and every counter at zero.
-/
module

public import proofs.«01_k».proof.Proof.Ranges
public import proofs.«01_k».proof.Proof.Gen.Kernel
public import proofs.«01_k».proof.Proof.Gen.ReferenceIdeal.Run
public import proofs.«01_k».proof.Proof.Gen.ReferenceIdeal
public import proofs.«01_k».proof.Proof.Gen.Pre_golds_in_range
public import proofs.«01_k».proof.Proof.Gen.Pre_golds_and_grids
public import Idealize.ShloMosaic.Lib.Quiescent

@[expose] public section

set_option maxRecDepth 16384

namespace Cert.GoldSpans

open Idealize.ShloMosaic Idealize.SL.Sem
open Cert.KernelIdeal (main_arg0 main_arg1 main_arg2 main_arg3 main_arg4 main_arg5 main_arg6 nD τ sig)

/-- What every run of the kernel's program leaves of its arguments and of the counters. -/
def Kept {F : FTy → Type} [FloatOps F] (m : (ℓ : Loc nD τ sig) → Buf (Elt F) ℓ) (s : MemSt nD τ sig (Elt F)) : Prop :=
  (∀ c : Dev nD,
      s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6))
  ∧ s.sem = fun _ => 0

theorem kept_of_final {F : FTy → Type} [FloatOps F] {m : (ℓ : Loc nD τ sig) → Buf (Elt F) ℓ} {r : PUnit × MemSt nD τ sig (Elt F)}
    (h : QC m r) : Kept m r.2 :=
  ⟨fun c => ⟨(h.1 c _ (ref_mem main_arg0 rfl)).trans (V5_arg0 m c), (h.1 c _ (ref_mem main_arg1 rfl)).trans (V5_arg1 m c),
    (h.1 c _ (ref_mem main_arg2 rfl)).trans (V5_arg2 m c), (h.1 c _ (ref_mem main_arg3 rfl)).trans (V5_arg3 m c),
    (h.1 c _ (ref_mem main_arg4 rfl)).trans (V5_arg4 m c), (h.1 c _ (ref_mem main_arg5 rfl)).trans (V5_arg5 m c),
    (h.1 c _ (ref_mem main_arg6 rfl)).trans (V5_arg6 m c)⟩, h.2⟩

/-- A run from starts and ends in range keeps the arguments and the counters, over any float values. -/
theorem run_kept {F : FTy → Type} [FloatOps F] [∀ e, Nonempty (Elt F e)] (m : (ℓ : Loc nD τ sig) → Buf (Elt F) ℓ)
    (ρ : Dev nD → PrngReg) (hT : Tame m) :
    θ_run (Cert.KernelIdeal.defs (F := F)) (Cert.KernelIdeal.threads (F := F)) ⟨m, fun _ => 0, ρ⟩ fun r => Kept m r.2 :=
  (θ_run Cert.KernelIdeal.defs _ _).mono (fun _ h => kept_of_final h) (run_main m ρ (inRange hT))

theorem frame_ideal : Cert.quiescent_KernelIdeal := fun m ρ h =>
  run_kept (F := Ideal) m ρ fun d b q => (proper_of_range (h d) b q).no_lt

theorem tame_of_grids {m : (ℓ : Loc nD τ sig) → Buf (Elt Ideal) ℓ} (h : Cert.Pre_KernelIdeal_golds_and_grids m) : Tame m :=
  fun d b q => (proper_of_grids (h d).1 b q).no_lt

theorem frame_ideal_grids : Cert.quiescent_KernelIdeal_pre_golds_and_grids := fun m ρ h =>
  run_kept (F := Ideal) m ρ (tame_of_grids h)

/-- The reference's frame from any memory: it has no counter at all. -/
theorem reference_kept (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0 :=
  (θ_run (Cert.ReferenceIdeal.defs (F := Ideal)) _ _).mono
    (fun r h => And.intro (fun c => (h c).2.2.2.2.2.2.2.2.2.2) (sem_eq_zero_of_no_sems (by decide) r.2))
    (Cert.ReferenceIdeal.Value.run (F := Ideal) m ρ)

theorem frame_reference : Cert.quiescent_ReferenceIdeal := fun m ρ _ => reference_kept m ρ

theorem frame_reference_grids : Cert.quiescent_ReferenceIdeal_pre_golds_and_grids := fun m ρ _ => reference_kept m ρ

end Cert.GoldSpans
-- ==== Proof.SameText.lean ====
/-
  The kernel's program and its reading over the reals are the same text: what is shown of the one over any
  float values holds of the other.
-/
module

public import proofs.«01_k».proof.Proof.Frames

@[expose] public section

set_option maxRecDepth 16384

namespace Cert.GoldSpans

open Idealize.ShloMosaic Idealize.SL.Sem

variable {F : FTy → Type} [FloatOps F]

set_option maxHeartbeats 2000000 in
theorem bodies_eq : (Cert.Kernel.defs₀ (F := F)) = (Cert.KernelIdeal.defs₀ (F := F)) := by
  funext p l a
  match p, l with
  | .tc, 0 => rfl
  | .tc, 1 => rfl
  | .scScalar _, 0 => rfl
  | .scScalar _, 1 => rfl
  | .scVector _ _, 0 => rfl
  | .scVector _ _, 1 => rfl

set_option maxHeartbeats 4000000 in
theorem defs_eq : (Cert.Kernel.defs (F := F)) = (Cert.KernelIdeal.defs (F := F)) :=
  congrArg (fun D => Cert.KernelIdeal.sc.defs (Pipeline.defs Cert.KernelIdeal.pcfgs D)) bodies_eq

set_option maxHeartbeats 4000000 in
theorem main_eq : (Cert.Kernel.main (F := F)) = (Cert.KernelIdeal.main (F := F)) := rfl

set_option maxHeartbeats 4000000 in
theorem threads_eq : (Cert.Kernel.threads (F := F)) = (Cert.KernelIdeal.threads (F := F)) :=
  congrArg (fun p => Cert.KernelIdeal.sc.threads p) main_eq

set_option maxHeartbeats 2000000 in
theorem frame_kernel : Cert.quiescent_Kernel := fun m ρ h => by
  have e := run_kept (F := Bits) m ρ fun d b q => (proper_of_range (h d) b q).no_lt
  rw [← defs_eq, ← threads_eq] at e
  exact e

end Cert.GoldSpans
-- ==== Proof.RefReads.lean ====
/-
  The reference's gathers, bounds tests, quotients and remainders, read at an index.
-/
module

public import proofs.«01_k».proof.Proof.Gen.ReferenceIdeal.Read
public import proofs.«01_k».proof.Proof.SortValue
public import Idealize.ShloMosaic.Lib.Pointwise
public import Idealize.ShloMosaic.Lib.ReduceAll

@[expose] public section

set_option maxRecDepth 16384

namespace Cert.GoldSpans

open Idealize.ShloMosaic
open Cert.ReferenceIdeal (S8 S8x512 S8x512x1 S8x32768x1 S8x32768x128 S8x512x128 S1 S_ S1x1x1
  gather_S8x512_S8x512x1_S8x512_n_1_0_0_1_2_11 gather_S8x32768x128_S8x512x1_S8x512x128_2_1_0_0_1_2_11128
  gather_S8x32768x1_S8x512x1_S8x512x1_2_1_0_0_1_2_111)

/-! ## Gathers along the second axis -/

theorem rowIdx_at (b : Fin 8) (j : Fin 512) (c) :
    gather_S8x512_S8x512x1_S8x512_n_1_0_0_1_2_11.siIdx (ix2 b j) c = ix3 b j 0 := by
  funext a
  match a with
  | ⟨0, _⟩ => rfl
  | ⟨1, _⟩ => rfl
  | ⟨2, _⟩ => exact Fin.ext (Nat.lt_one_iff.1 c.isLt)

theorem taken_row {α : Type} (x : S8x512.Idx → α) (idx : IVec S8x512x1 32) (b : Fin 8) (j p : Fin 512)
    (hp : (idx (ix3 b j 0)).toInt = p.val) :
    Host.gather gather_S8x512_S8x512x1_S8x512_n_1_0_0_1_2_11 x idx (ix2 b j) = x (ix2 b p) := by
  refine congrArg x (funext fun a => Fin.ext ?_)
  match a with
  | ⟨0, _⟩ => exact Nat.zero_add _
  | ⟨1, _⟩ =>
    show min (idx (gather_S8x512_S8x512x1_S8x512_n_1_0_0_1_2_11.siIdx (ix2 b j) ⟨0, by decide⟩)).toInt.toNat (512 - 1) + 0 + 0 = p.val
    rw [rowIdx_at, hp]
    have := p.isLt
    omega

theorem vecIdx_at (b : Fin 8) (j : Fin 512) (k : Fin 128) (c) :
    gather_S8x32768x128_S8x512x1_S8x512x128_2_1_0_0_1_2_11128.siIdx (ix3 b j k) c = ix3 b j 0 := by
  funext a
  match a with
  | ⟨0, _⟩ => rfl
  | ⟨1, _⟩ => rfl
  | ⟨2, _⟩ => exact Fin.ext (Nat.lt_one_iff.1 c.isLt)

theorem taken_vec {α : Type} (x : S8x32768x128.Idx → α) (idx : IVec S8x512x1 32) (b : Fin 8) (j : Fin 512) (k : Fin 128) (p : Fin 32768)
    (hp : (idx (ix3 b j 0)).toInt = p.val) :
    Host.gather gather_S8x32768x128_S8x512x1_S8x512x128_2_1_0_0_1_2_11128 x idx (ix3 b j k) = x (ix3 b p k) := by
  refine congrArg x (funext fun a => Fin.ext ?_)
  match a with
  | ⟨0, _⟩ => exact Nat.zero_add _
  | ⟨1, _⟩ =>
    show min (idx (gather_S8x32768x128_S8x512x1_S8x512x128_2_1_0_0_1_2_11128.siIdx (ix3 b j k) ⟨0, by decide⟩)).toInt.toNat (32768 - 1) + 0 + 0 = p.val
    rw [vecIdx_at, hp]
    have := p.isLt
    omega
  | ⟨2, _⟩ => exact (Nat.zero_add _)

theorem oneIdx_at (b : Fin 8) (j : Fin 512) (c) :
    gather_S8x32768x1_S8x512x1_S8x512x1_2_1_0_0_1_2_111.siIdx (ix3 b j 0) c = ix3 b j 0 := by
  funext a
  match a with
  | ⟨0, _⟩ => rfl
  | ⟨1, _⟩ => rfl
  | ⟨2, _⟩ => exact Fin.ext (Nat.lt_one_iff.1 c.isLt)

theorem taken_one {α : Type} (x : S8x32768x1.Idx → α) (idx : IVec S8x512x1 32) (b : Fin 8) (j : Fin 512) (p : Fin 32768)
    (hp : (idx (ix3 b j 0)).toInt = p.val) :
    Host.gather gather_S8x32768x1_S8x512x1_S8x512x1_2_1_0_0_1_2_111 x idx (ix3 b j 0) = x (ix3 b p 0) := by
  refine congrArg x (funext fun a => Fin.ext ?_)
  match a with
  | ⟨0, _⟩ => exact Nat.zero_add _
  | ⟨1, _⟩ =>
    show min (idx (gather_S8x32768x1_S8x512x1_S8x512x1_2_1_0_0_1_2_111.siIdx (ix3 b j 0) ⟨0, by decide⟩)).toInt.toNat (32768 - 1) + 0 + 0 = p.val
    rw [oneIdx_at, hp]
    have := p.isLt
    omega
  | ⟨2, _⟩ => exact (Nat.zero_add _)

/-! ## Words that hold small naturals -/

theorem toInt_small {w : BitVec 32} (h : w.toNat < 32768) : w.toInt = w.toNat := by
  rw [BitVec.toInt_eq_toNat_cond, if_pos (by omega)]

theorem not_negative {w : BitVec 32} (h : w.toNat < 32768) : IntOp.cmpi .slt w 0#32 = 0#1 := by
  show BitVec.ofBool (w.slt 0#32) = 0#1
  have e : w.slt 0#32 = false := by
    rw [BitVec.slt_eq_decide, toInt_small h, decide_eq_false_iff_not]
    simp
  rw [e]; rfl

theorem at_least {w : BitVec 32} (h : w.toNat < 32768) : IntOp.cmpi .sge w 0#32 = 1#1 := by
  show BitVec.ofBool ((0#32).sle w) = 1#1
  have e : (0#32).sle w = true := by
    rw [BitVec.sle_eq_decide, toInt_small h, decide_eq_true_eq]
    simp
  rw [e]; rfl

theorem at_most {w u : BitVec 32} (hu : u.toNat < 32768) (h : w.toNat ≤ u.toNat) : IntOp.cmpi .sle w u = 1#1 := by
  show BitVec.ofBool (w.sle u) = 1#1
  have e : w.sle u = true := by
    rw [BitVec.sle_eq_decide, toInt_small (Nat.lt_of_le_of_lt h hu), toInt_small hu, decide_eq_true_eq]
    exact_mod_cast h
  rw [e]; rfl

end Cert.GoldSpans
-- ==== Proof.Argsort.lean ====
/-
  A stable argsort of the masked span numbers lists the positions in the order of `nth`.
-/
module

public import proofs.«01_k».proof.Proof.Order
public import Idealize.ShloMosaic.Lib.SortFacts

@[expose] public section

namespace Cert.GoldSpans

open Idealize.ShloMosaic

section

variable {M : Fin 512 → BitVec 32} {R : Fin 512 → Fin 512 → Bool} (hR : ∀ a b, R a b = true ↔ (M a).toNat < (M b).toNat)

theorem mem_insertBefore {ι : Type} (r : ι → ι → Bool) (a x : ι) (l : List ι) : x ∈ insertBefore r a l ↔ x = a ∨ x ∈ l := by
  rw [(perm_insertBefore r a l).mem_iff, List.mem_cons]

include hR

/-- Putting an earlier position into a list in the compounds' order keeps the order. -/
theorem ascending_insert (a : Fin 512) (l : List (Fin 512)) (ha : ∀ b ∈ l, a < b)
    (hl : l.Pairwise fun i j => compound M i < compound M j) :
    (insertBefore R a l).Pairwise fun i j => compound M i < compound M j := by
  induction l with
  | nil => exact List.pairwise_singleton _ _
  | cons b l ih =>
    rw [List.pairwise_cons] at hl
    have hab : a.val < b.val := ha b (List.mem_cons_self ..)
    unfold insertBefore
    split
    · rename_i hb
      have hlt := (hR b a).1 hb
      refine List.pairwise_cons.2 ⟨fun x hx => ?_, ih (fun x hx => ha x (List.mem_cons_of_mem _ hx)) hl.2⟩
      rcases (mem_insertBefore R a x l).1 hx with rfl | hx
      · show (M b).toNat * 512 + b.val < (M x).toNat * 512 + x.val
        omega
      · exact hl.1 x hx
    · rename_i hb
      have hle : (M a).toNat ≤ (M b).toNat := Nat.le_of_not_lt fun h => hb ((hR b a).2 h)
      have hfirst : compound M a < compound M b := by
        show (M a).toNat * 512 + a.val < (M b).toNat * 512 + b.val
        omega
      refine List.pairwise_cons.2 ⟨fun x hx => ?_, List.pairwise_cons.2 hl⟩
      rcases List.mem_cons.1 hx with rfl | hx
      · exact hfirst
      · exact hfirst.trans (hl.1 x hx)

theorem ascending_sort (l : List (Fin 512)) (hl : l.Pairwise fun i j => i < j) :
    (stableSort R l).Pairwise fun i j => compound M i < compound M j := by
  induction l with
  | nil => exact List.Pairwise.nil
  | cons a l ih =>
    rw [List.pairwise_cons] at hl
    exact ascending_insert hR a _ (fun b hb => hl.1 b ((perm_stableSort R l).mem_iff.1 hb)) (ih hl.2)

theorem ascending_positions : (sortPositions 512 R).Pairwise fun i j => compound M i < compound M j := by
  unfold sortPositions
  exact ascending_sort hR _ (List.pairwise_lt_finRange 512)

omit hR in
theorem ascending_get (l : List (Fin 512)) (hn : l.length = 512) (hl : l.Pairwise fun i j => compound M i < compound M j)
    (i j : Fin 512) (hij : i < j) : compound M (l.get (i.cast hn.symm)) < compound M (l.get (j.cast hn.symm)) :=
  List.pairwise_iff_get.1 hl _ _ hij

/-- Where a stable sort by the entries takes its `j`-th position from. -/
theorem sortedFrom_eq_nth : sortedFrom R = nth M := by
  refine eq_nth M _ fun i j hij => ?_
  unfold sortedFrom
  exact ascending_get _ (length_sortPositions 512 R) (ascending_positions hR) i j hij

end

/-- Signed order of words that hold small naturals. -/
theorem slt_iff_toNat {a b : BitVec 32} (ha : a.toNat ≤ 32768) (hb : b.toNat ≤ 32768) : (a.slt b) = true ↔ a.toNat < b.toNat := by
  rw [BitVec.slt_eq_decide, decide_eq_true_eq, BitVec.toInt_eq_toNat_cond, BitVec.toInt_eq_toNat_cond]
  omega

end Cert.GoldSpans
-- ==== Proof.RefWords.lean ====
/-
  The reference's words at an index: its argsort, the listed span numbers, and their starts and ends.
-/
module

public import proofs.«01_k».proof.Proof.RefReads
public import proofs.«01_k».proof.Proof.Argsort
public import proofs.«01_k».proof.Proof.Results
public import Idealize.ShloMosaic.Lib.Routing.Words
public import Idealize.ShloMosaic.Lib.Routing.BitFacts

@[expose] public section

set_option maxRecDepth 16384

noncomputable section

namespace Cert.GoldSpans

open Idealize.ShloMosaic
open Cert.ReferenceIdeal (S8 S8x512 S8x512x1 S8x512x2 S8x32768x1 S8x32768x128 S8x512x128 S1 S_ S1x1x1)
open Cert.ReferenceIdeal.Read

/-! ## Quotients and remainders by sixteen -/

theorem word_of (w : BitVec 32) : w = BitVec.ofNat 32 w.toNat := by
  rw [BitVec.ofNat_toNat, BitVec.setWidth_eq]

theorem msb_small {w : BitVec 32} (h : w.toNat < 32768) : w.msb = false := by
  rw [BitVec.msb_eq_false_iff_two_mul_lt]; omega

theorem begOf_small {w : BitVec 32} (h : w.toNat < 32768) : begOf w = BitVec.ofNat 32 (w.toNat / 16) := by
  have e : begOf w = w.sshiftRight 4 := rfl
  rw [e, BitVec.sshiftRight_eq_of_msb_false (msb_small h)]
  apply BitVec.eq_of_toNat_eq
  rw [BitVec.toNat_ushiftRight, Nat.shiftRight_eq_div_pow, BitVec.toNat_ofNat]
  omega

theorem low_small (w : BitVec 32) : IntOp.andi w 15#32 = BitVec.ofNat 32 (w.toNat % 16) := by
  apply BitVec.eq_of_toNat_eq
  show (w &&& 15#32).toNat = _
  rw [BitVec.toNat_and, BitVec.toNat_ofNat, BitVec.toNat_ofNat]
  rw [show 15 % 2 ^ 32 = 2 ^ 4 - 1 from rfl, Nat.and_two_pow_sub_one_eq_mod]
  omega

theorem quotient {w : BitVec 32} (h : w.toNat < 32768) : IntOp.divsi .host w 16#32 = begOf w := by
  rw [begOf_small h]
  conv_lhs => rw [word_of w]
  exact Routing.divsi_word .host (by omega) (by omega) (by omega)

theorem remainder {w : BitVec 32} (h : w.toNat < 32768) : IntOp.remsi .host w 16#32 = IntOp.andi w 15#32 := by
  rw [low_small]
  conv_lhs => rw [word_of w]
  exact Routing.remsi_word .host (by omega) (by omega) (by omega)

theorem low_lt (w : BitVec 32) : (IntOp.andi w 15#32).toNat < 32768 := by
  rw [low_small, BitVec.toNat_ofNat]; omega

theorem no_carry (c : BitVec 1) (x y : BitVec 32) : Scalar.select (IntOp.andi 0#1 c) x y = y := by
  show (if (0#1 &&& c) = 1#1 then x else y) = y
  rw [BitVec.zero_and]; rfl

/-- The quotient rounded down: the plain one, the dividend not being negative. -/
theorem floored {w : BitVec 32} (h : w.toNat < 32768) :
    Scalar.select (IntOp.andi (IntOp.cmpi .ne (if w = 0 then 0 else if w.msb then -1 else 1 : BitVec 32) 1#32)
        (IntOp.cmpi .ne (IntOp.remsi .host w 16#32) 0#32))
      (IntOp.subi (IntOp.divsi .host w 16#32) 1#32) (IntOp.divsi .host w 16#32) = begOf w := by
  rw [quotient h, remainder h, msb_small h]
  by_cases h0 : w = 0
  · subst h0; decide
  · rw [if_neg h0, if_neg Bool.false_ne_true]
    exact no_carry _ _ _

/-- The remainder with the divisor's sign: the plain one. -/
theorem reduced {w : BitVec 32} (h : w.toNat < 32768) :
    Scalar.select (IntOp.andi (IntOp.cmpi .ne (IntOp.cmpi .slt (IntOp.remsi .host w 16#32) 0#32) 0#1)
        (IntOp.cmpi .ne (IntOp.remsi .host w 16#32) 0#32))
      (IntOp.addi (IntOp.remsi .host w 16#32) 16#32) (IntOp.remsi .host w 16#32) = IntOp.andi w 15#32 := by
  rw [remainder h, not_negative (low_lt w)]
  exact no_carry _ _ _

/-- An index that is in range is taken as it stands. -/
theorem wrapped {w u : BitVec 32} (h : w.toNat < 32768) :
    Scalar.select (IntOp.cmpi .slt w 0#32) (IntOp.addi w u) w = w := by
  rw [not_negative h]; rfl

/-! ## The words -/

/-- The range test that guards a gather holds when every index is within bounds. -/
theorem guarded (idx : S8x512x1.Idx → BitVec 32) (lo hi : S8x512x1.Idx → BitVec 32) (c : S_.Idx → BitVec 1) (u : BitVec 32)
    (hr : S8x512x1.ReducesTo [2] S8x512) (hu : 0 < S_.numel) (hc : c = fun _ => 1#1) (hlo : ∀ i, lo i = 0#32) (hhi : ∀ i, hi i = u)
    (hb : u.toNat < 32768) (h : ∀ i, (idx i).toNat ≤ u.toNat) (j : S8x512.Idx) :
    Host.reduce IntOp.andi (andi (cmpi .sge idx lo) (cmpi .sle idx hi)) c hr hu j = 1#1 := by
  refine Host.reduce_andi_one _ _ _ _ j (by rw [hc]) fun i => ?_
  show IntOp.andi (IntOp.cmpi .sge (idx i) (lo i)) (IntOp.cmpi .sle (idx i) (hi i)) = 1#1
  rw [hlo, hhi, at_least (Nat.lt_of_le_of_lt (h i) hb), at_most hb (h i)]
  rfl

theorem small_pos (p : Fin 512) : (BitVec.ofNat 32 p.val).toNat = p.val := by
  rw [BitVec.toNat_ofNat]; omega

variable {F : FTy → Type} [FloatOps F]
variable (x4 : (⟨S8x512x2, .i32⟩ : BufTy).Contents (Elt F)) (x5 : (⟨S8, .i32⟩ : BufTy).Contents (Elt F))

/-- The reference's masked span numbers of a batch. -/
abbrev entryAt (b : Fin 8) : Fin 512 → BitVec 32 :=
  entry (x5 (ix1 b)) (fun q => x4 (ix3 b q 0)) (fun q => x4 (ix3 b q 1))

theorem start_at (b : Fin 8) (q : Fin 512) : val_main_v3 (F := F) x4 (ix2 b q) = x4 (ix3 b q 0) := by
  unfold val_main_v3 val_main_v2
  simp only [pointwise]
  exact congrArg₂ (fun x y => x4 (ix3 x y 0)) (Fin.ext (Nat.zero_add _)) (Fin.ext (Nat.zero_add _))

theorem stop_at (b : Fin 8) (q : Fin 512) : val_main_v5 (F := F) x4 (ix2 b q) = x4 (ix3 b q 1) := by
  unfold val_main_v5 val_main_v4
  simp only [pointwise]
  exact congrArg₂ (fun x y => x4 (ix3 x y 1)) (Fin.ext (Nat.zero_add _)) (Fin.ext (Nat.zero_add _))

/-- A span counts when its position is below the batch's length. -/
theorem counted_at (b : Fin 8) (q : Fin 512) :
    val_main_v15 (F := F) x5 (ix2 b q) = IntOp.cmpi .slt (BitVec.ofNat 32 q.val) (x5 (ix1 b)) := by
  rw [val_main_v15_apply, val_main_v13_apply, val_main_v11_apply, val_main_v10_apply, val_main_v14_apply, val_main_v12_apply]
  refine congrArg (fun x => IntOp.cmpi .slt (BitVec.ofNat 32 q.val) (x5 x)) ?_
  funext a; match a with | ⟨0, _⟩ => rfl

theorem number_at (b : Fin 8) (q : Fin 512) :
    val_main_v9 (F := F) x4 (ix2 b q) = spanNo (x4 (ix3 b q 0)) (x4 (ix3 b q 1)) := by
  rw [val_main_v9_apply, val_main_v7_apply, val_main_v8_apply, start_at, stop_at]
  rfl

theorem select_slt (a b x y : BitVec 32) : Scalar.select (IntOp.cmpi .slt a b) x y = if a.slt b then x else y := by
  cases h : a.slt b <;> simp [Scalar.select, IntOp.cmpi, h]

theorem masked_at (b : Fin 8) (q : Fin 512) : val_main_v16 (F := F) x4 x5 (ix2 b q) = entryAt x4 x5 b q := by
  rw [val_main_v16_apply, counted_at, number_at, select_slt]
  rfl

theorem along_row (b : Fin 8) (j k : Fin 512) (h : 1 < S8x512.rank) :
    (ix2 b j : S8x512.Idx).along ⟨1, h⟩ k = ix2 b k := by
  funext a
  match a with
  | ⟨0, _⟩ => rfl
  | ⟨1, _⟩ => rfl

theorem sorted_at {α β : Type} (cmp : α × β → α × β → BitVec 1) (x : S8x512.Idx → α) (y : S8x512.Idx → β)
    (b : Fin 8) (j : Fin 512) :
    (Host.sort2 S8x512 1 cmp x y).2 (ix2 b j)
      = y (ix2 b (sortedFrom (fun k k' : Fin 512 => cmp (x (ix2 b k), y (ix2 b k)) (x (ix2 b k'), y (ix2 b k')) == 1#1) j)) := by
  unfold Host.sort2
  rw [dif_pos (show 1 < S8x512.rank by decide)]
  refine congrArg y ((along_row b j _ _).trans (congrArg (fun R : Fin 512 → Fin 512 → Bool => ix2 b (sortedFrom R j)) ?_))
  funext k k'
  exact congrArg₂ (fun u v => cmp (x u, y u) (x v, y v) == 1#1) (along_row b j k _) (along_row b j k' _)

variable (hT : ∀ b q, (spanNo (x4 (ix3 b q 0)) (x4 (ix3 b q 1))).toNat < 32768)

include hT

theorem entryAt_le (b : Fin 8) (i : Fin 512) : (entryAt x4 x5 b i).toNat ≤ 32768 := entry_le (hT b) i

/-- The argsort lists the positions in the order of their entries. -/
theorem argsort_at (b : Fin 8) (j : Fin 512) :
    val_main_v17 (F := F) x4 x5 (ix2 b j) = BitVec.ofNat 32 (nth (entryAt x4 x5 b) j).val := by
  unfold val_main_v17
  rw [sorted_at, val_main_call1_v0_apply]
  have e := sortedFrom_eq_nth (M := entryAt x4 x5 b)
    (R := fun k k' : Fin 512 => ReferenceIdeal.comparator_i32_i32_d1
      (val_main_v16 (F := F) x4 x5 (ix2 b k), val_main_call1_v0 (F := F) (ix2 b k))
      (val_main_v16 (F := F) x4 x5 (ix2 b k'), val_main_call1_v0 (F := F) (ix2 b k')) == 1#1) (fun p q => by
    rw [← slt_iff_toNat (entryAt_le x4 x5 hT b p) (entryAt_le x4 x5 hT b q), ← masked_at, ← masked_at, beq_iff_eq]
    generalize val_main_v16 (F := F) x4 x5 (ix2 b p) = u
    generalize val_main_v16 (F := F) x4 x5 (ix2 b q) = v
    show BitVec.ofBool (u.slt v) = 1#1 ↔ _
    cases u.slt v <;> decide)
  rw [e]
  rfl

/-! ## The words picked -/

theorem argsort_lt (i : S8x512.Idx) : (val_main_v17 (F := F) x4 x5 i).toNat ≤ 511 := by
  have e : i = ix2 (i 0) (i 1) := by
    funext a
    match a with
    | ⟨0, _⟩ => rfl
    | ⟨1, _⟩ => rfl
  rw [e]
  refine (congrArg BitVec.toNat (argsort_at x4 x5 hT (i 0) (i 1))).trans_le ?_
  rw [small_pos]
  exact Nat.le_of_lt_succ (nth (entryAt x4 x5 (i 0)) (i 1)).isLt

theorem place2_apply (i : S8x512.Idx) : val_main_call2_v4 (F := F) x4 x5 i = val_main_v17 (F := F) x4 x5 i := by
  rw [val_main_call2_v4_apply, val_main_call2_v1_apply, val_main_call2_v3_apply]
  exact wrapped (Nat.lt_of_le_of_lt (argsort_lt x4 x5 hT i) (by decide))

theorem place3_apply (i : S8x512.Idx) : val_main_call3_v4 (F := F) x4 x5 i = val_main_v17 (F := F) x4 x5 i := by
  rw [val_main_call3_v4_apply, val_main_call3_v1_apply, val_main_call3_v3_apply]
  exact wrapped (Nat.lt_of_le_of_lt (argsort_lt x4 x5 hT i) (by decide))

theorem place2_at (b : Fin 8) (j : Fin 512) :
    (val_main_call2_v5 (F := F) x4 x5 (ix3 b j 0)).toInt = (nth (entryAt x4 x5 b) j).val := by
  have e : val_main_call2_v5 (F := F) x4 x5 (ix3 b j 0) = val_main_call2_v4 (F := F) x4 x5 (ix2 b j) := by
    unfold val_main_call2_v5
    simp only [pointwise]
  rw [e, place2_apply x4 x5 hT, argsort_at x4 x5 hT, toInt_small, small_pos]
  rw [small_pos]; omega

theorem place3_at (b : Fin 8) (j : Fin 512) :
    (val_main_call3_v5 (F := F) x4 x5 (ix3 b j 0)).toInt = (nth (entryAt x4 x5 b) j).val := by
  have e : val_main_call3_v5 (F := F) x4 x5 (ix3 b j 0) = val_main_call3_v4 (F := F) x4 x5 (ix2 b j) := by
    unfold val_main_call3_v5
    simp only [pointwise]
  rw [e, place3_apply x4 x5 hT, argsort_at x4 x5 hT, toInt_small, small_pos]
  rw [small_pos]; omega

theorem guard2 (j : S8x512.Idx) : val_main_call2_v12 (F := F) x4 x5 j = 1#1 := by
  refine guarded _ _ _ _ 511#32 _ _ rfl (fun _ => rfl) (fun _ => rfl) (by decide) (fun i => ?_) j
  rw [val_main_call2_v5_apply, place2_apply x4 x5 hT]
  exact argsort_lt x4 x5 hT _

theorem guard3 (j : S8x512.Idx) : val_main_call3_v12 (F := F) x4 x5 j = 1#1 := by
  refine guarded _ _ _ _ 511#32 _ _ rfl (fun _ => rfl) (fun _ => rfl) (by decide) (fun i => ?_) j
  rw [val_main_call3_v5_apply, place3_apply x4 x5 hT]
  exact argsort_lt x4 x5 hT _

/-- The `j`-th smallest entry. -/
theorem sorted_entry_at (b : Fin 8) (j : Fin 512) :
    val_main_v18 (F := F) x4 x5 (ix2 b j) = entryAt x4 x5 b (nth (entryAt x4 x5 b) j) := by
  rw [val_main_v18_apply, guard2 x4 x5 hT]
  show val_main_call2_v13 (F := F) x4 x5 (ix2 b j) = _
  unfold val_main_call2_v13
  rw [taken_row _ _ _ _ _ (place2_at x4 x5 hT b j), masked_at]

/-- Whether the `j`-th smallest entry counts. -/
theorem sorted_counted_at (b : Fin 8) (j : Fin 512) :
    val_main_v19 (F := F) x4 x5 (ix2 b j)
      = IntOp.cmpi .slt (BitVec.ofNat 32 (nth (entryAt x4 x5 b) j).val) (x5 (ix1 b)) := by
  rw [val_main_v19_apply, guard3 x4 x5 hT]
  show val_main_call3_v13 (F := F) x4 x5 (ix2 b j) = _
  unfold val_main_call3_v13
  rw [taken_row _ _ _ _ _ (place3_at x4 x5 hT b j), counted_at]

/-- The reference's listed span numbers. -/
abbrev picked (b : Fin 8) (j : Fin 512) : BitVec 32 := clip (entryAt x4 x5 b (nth (entryAt x4 x5 b) j))

theorem picked_lt (b : Fin 8) (j : Fin 512) : (picked x4 x5 b j).toNat < 32768 := clip_lt (entryAt_le x4 x5 hT b _)

theorem picked_at (b : Fin 8) (j : Fin 512) : val_main_v20 (F := F) x4 x5 (ix2 b j) = picked x4 x5 b j := by
  rw [val_main_v20_apply, sorted_entry_at x4 x5 hT, sorted_counted_at x4 x5 hT, select_slt]
  unfold picked clip
  have e := (slt_big (entryAt_le x4 x5 hT b (nth (entryAt x4 x5 b) j))).trans (entry_lt_iff (hT b) _)
  by_cases h : (BitVec.ofNat 32 (nth (entryAt x4 x5 b) j).val).slt (x5 (ix1 b)) = true
  · rw [if_pos h, if_pos (e.2 h)]
  · rw [if_neg h, if_neg fun h' => h (e.1 h')]
    rfl

theorem first_at (b : Fin 8) (j : Fin 512) : val_main_v21 (F := F) x4 x5 (ix2 b j) = begOf (picked x4 x5 b j) := by
  have c1 : val_main_call5_v1 (F := F) (ix2 b j) = 16#32 := rfl
  have c5 : val_main_call5_v5 (F := F) (ix2 b j) = 1#32 := by
    show (if (16#32 : BitVec 32) = 0 then 0 else if (16#32 : BitVec 32).msb then -1 else 1 : BitVec 32) = 1#32
    decide
  have c7 : val_main_call5_v7 (F := F) (ix2 b j) = 16#32 := rfl
  have c9 : val_main_call5_v9 (F := F) (ix2 b j) = 0#32 := rfl
  have c12 : val_main_call5_v12 (F := F) (ix2 b j) = 1#32 := rfl
  rw [val_main_v21_apply, val_main_call5_v11_apply, val_main_call5_v6_apply, val_main_call5_v10_apply,
    val_main_call5_v8_apply, val_main_call5_v13_apply, val_main_call5_v2_apply, c1, c5, c7, c9, c12]
  unfold val_main_call5_v3
  rw [signi_apply, picked_at x4 x5 hT]
  exact floored (picked_lt x4 x5 hT b j)

theorem low_at (b : Fin 8) (j : Fin 512) : val_main_v22 (F := F) x4 x5 (ix2 b j) = IntOp.andi (picked x4 x5 b j) 15#32 := by
  have c3 : val_main_call6_v3 (F := F) (ix2 b j) = 16#32 := rfl
  have c5 : val_main_call6_v5 (F := F) (ix2 b j) = 0#32 := rfl
  have c7 : val_main_call6_v7 (F := F) (ix2 b j) = 0#32 := rfl
  have c10 : val_main_call6_v10 (F := F) (ix2 b j) = 0#1 := rfl
  have c13 : val_main_call6_v13 (F := F) (ix2 b j) = 16#32 := rfl
  rw [val_main_v22_apply, val_main_call6_v12_apply, val_main_call6_v11_apply, val_main_call6_v8_apply,
    val_main_call6_v6_apply, val_main_call6_v14_apply, val_main_call6_v4_apply, c3, c5, c7, c10, c13, picked_at x4 x5 hT]
  exact reduced (picked_lt x4 x5 hT b j)

theorem last_at (b : Fin 8) (j : Fin 512) : val_main_v23 (F := F) x4 x5 (ix2 b j) = endOf (picked x4 x5 b j) := by
  rw [val_main_v23_apply, first_at x4 x5 hT, low_at x4 x5 hT]
  rfl

end Cert.GoldSpans
-- ==== Proof.RefValue.lean ====
/-
  The reference's results at an index: the grids read at the listed spans.
-/
module

public import proofs.«01_k».proof.Proof.RefWords

@[expose] public section

set_option maxRecDepth 16384

noncomputable section

namespace Cert.GoldSpans

open Idealize.ShloMosaic
open Cert.ReferenceIdeal (S8 S8x512 S8x512x1 S8x512x2 S8x32768x1 S8x32768x128 S8x512x128 S8x2048x16x128 S8x2048x16x1)
open Cert.ReferenceIdeal.Read

variable {F : FTy → Type} [FloatOps F]

/-! ## Where a span lies in a flattened grid -/

theorem grid_vec (b : Fin 8) (p : Fin 32768) (k : Fin 128) :
    idx_main_v35 (ix3 b p k) = ix4 b ⟨p.val / 16, by omega⟩ ⟨p.val % 16, by omega⟩ k := by
  funext a
  match a with
  | ⟨0, _⟩ => exact Fin.ext (show ((b.val * 32768 + p.val) * 128 + k.val) / 4194304 = b.val by omega)
  | ⟨1, _⟩ => exact Fin.ext (show ((b.val * 32768 + p.val) * 128 + k.val) / 2048 % 2048 = p.val / 16 by omega)
  | ⟨2, _⟩ => exact Fin.ext (show ((b.val * 32768 + p.val) * 128 + k.val) / 128 % 16 = p.val % 16 by omega)
  | ⟨3, _⟩ => exact Fin.ext (show ((b.val * 32768 + p.val) * 128 + k.val) % 128 = k.val by omega)

theorem grid_one41 (b : Fin 8) (p : Fin 32768) :
    idx_main_v41 (ix3 b p 0) = ix4 b ⟨p.val / 16, by omega⟩ ⟨p.val % 16, by omega⟩ 0 := by
  funext a
  match a with
  | ⟨0, _⟩ => exact Fin.ext (show ((b.val * 32768 + p.val) * 1 + 0) / 32768 = b.val by omega)
  | ⟨1, _⟩ => exact Fin.ext (show ((b.val * 32768 + p.val) * 1 + 0) / 16 % 2048 = p.val / 16 by omega)
  | ⟨2, _⟩ => exact Fin.ext (show ((b.val * 32768 + p.val) * 1 + 0) / 1 % 16 = p.val % 16 by omega)
  | ⟨3, _⟩ => rfl

theorem grid_one44 (b : Fin 8) (p : Fin 32768) :
    idx_main_v44 (ix3 b p 0) = ix4 b ⟨p.val / 16, by omega⟩ ⟨p.val % 16, by omega⟩ 0 := by
  funext a
  match a with
  | ⟨0, _⟩ => exact Fin.ext (show ((b.val * 32768 + p.val) * 1 + 0) / 32768 = b.val by omega)
  | ⟨1, _⟩ => exact Fin.ext (show ((b.val * 32768 + p.val) * 1 + 0) / 16 % 2048 = p.val / 16 by omega)
  | ⟨2, _⟩ => exact Fin.ext (show ((b.val * 32768 + p.val) * 1 + 0) / 1 % 16 = p.val % 16 by omega)
  | ⟨3, _⟩ => rfl

/-! ## The gathers -/

variable (x4 : (⟨S8x512x2, .i32⟩ : BufTy).Contents (Elt F)) (x5 : (⟨S8, .i32⟩ : BufTy).Contents (Elt F))
variable (hT : ∀ b q, (spanNo (x4 (ix3 b q 0)) (x4 (ix3 b q 1))).toNat < 32768)

include hT

theorem numbers_lt (i : S8x512.Idx) : (val_main_v20 (F := F) x4 x5 i).toNat < 32768 := by
  have e : i = ix2 (i 0) (i 1) := by
    funext a
    match a with
    | ⟨0, _⟩ => rfl
    | ⟨1, _⟩ => rfl
  rw [e]
  exact (congrArg BitVec.toNat (picked_at x4 x5 hT (i 0) (i 1))).trans_lt (picked_lt x4 x5 hT (i 0) (i 1))

/-- The listed span of a batch as a row of a flattened grid. -/
abbrev rowOf (b : Fin 8) (j : Fin 512) : Fin 32768 := ⟨(picked x4 x5 b j).toNat, picked_lt x4 x5 hT b j⟩

theorem place8_apply (i : S8x512x1.Idx) :
    val_main_call8_v4 (F := F) x4 x5 i = val_main_v20 (F := F) x4 x5 (idx_main_v36 i) := by
  rw [val_main_call8_v4_apply, val_main_call8_v1_apply, val_main_call8_v3_apply, val_main_v36_apply]
  exact wrapped (numbers_lt x4 x5 hT _)

theorem place8_at (b : Fin 8) (j : Fin 512) :
    (val_main_call8_v4 (F := F) x4 x5 (ix3 b j 0)).toInt = (rowOf x4 x5 hT b j).val := by
  have e : idx_main_v36 (ix3 b j 0) = ix2 b j := by
    funext a
    match a with
    | ⟨0, _⟩ => rfl
    | ⟨1, _⟩ => rfl
  rw [place8_apply x4 x5 hT, e, picked_at x4 x5 hT, toInt_small (picked_lt x4 x5 hT b j)]

theorem guard8 (j : S8x512.Idx) : val_main_call8_v11 (F := F) x4 x5 j = 1#1 := by
  refine guarded _ _ _ _ 32767#32 _ _ rfl (fun _ => rfl) (fun _ => rfl) (by decide) (fun i => ?_) j
  rw [place8_apply x4 x5 hT]
  exact Nat.le_of_lt_succ (numbers_lt x4 x5 hT _)

/-- The vectors of the listed spans. -/
theorem vectors_at (x0 : (⟨S8x2048x16x128, .f32⟩ : BufTy).Contents (Elt F)) (b : Fin 8) (j : Fin 512) (k : Fin 128) :
    val_main_v37 (F := F) x0 x4 x5 (ix3 b j k)
      = x0 (ix4 b ⟨(picked x4 x5 b j).toNat / 16, by have := picked_lt x4 x5 hT b j; omega⟩
          ⟨(picked x4 x5 b j).toNat % 16, by omega⟩ k) := by
  rw [val_main_v37_apply, val_main_call8_v13_apply, guard8 x4 x5 hT]
  show val_main_call8_v12 (F := F) x0 x4 x5 (ix3 b j k) = _
  unfold val_main_call8_v12
  rw [taken_vec _ _ _ _ _ _ (place8_at x4 x5 hT b j), val_main_v35_apply, grid_vec]

theorem place9_apply (i : S8x512x1.Idx) :
    val_main_call9_v4 (F := F) x4 x5 i = val_main_v20 (F := F) x4 x5 (idx_main_v39 i) := by
  rw [val_main_call9_v4_apply, val_main_call9_v1_apply, val_main_call9_v3_apply, val_main_v39_apply]
  exact wrapped (numbers_lt x4 x5 hT _)

theorem place9_at (b : Fin 8) (j : Fin 512) :
    (val_main_call9_v4 (F := F) x4 x5 (ix3 b j 0)).toInt = (rowOf x4 x5 hT b j).val := by
  have e : idx_main_v39 (ix3 b j 0) = ix2 b j := by
    funext a
    match a with
    | ⟨0, _⟩ => rfl
    | ⟨1, _⟩ => rfl
  rw [place9_apply x4 x5 hT, e, picked_at x4 x5 hT, toInt_small (picked_lt x4 x5 hT b j)]

theorem guard9 (j : S8x512.Idx) : val_main_call9_v11 (F := F) x4 x5 j = 1#1 := by
  refine guarded _ _ _ _ 32767#32 _ _ rfl (fun _ => rfl) (fun _ => rfl) (by decide) (fun i => ?_) j
  rw [place9_apply x4 x5 hT]
  exact Nat.le_of_lt_succ (numbers_lt x4 x5 hT _)

/-- The scores of the listed spans: the score grid is zero throughout. -/
theorem scores_at (b : Fin 8) (j : Fin 512) :
    val_main_v40 (F := F) x4 x5 (ix3 b j 0) = FloatOps.ofBits .f32 0x00000000#32 := by
  rw [val_main_v40_apply, val_main_call9_v13_apply, guard9 x4 x5 hT]
  show val_main_call9_v12 (F := F) x4 x5 (ix3 b j 0) = _
  unfold val_main_call9_v12
  rw [taken_one _ _ _ _ _ (place9_at x4 x5 hT b j)]
  rfl

theorem place10_apply (i : S8x512x1.Idx) :
    val_main_call10_v4 (F := F) x4 x5 i = val_main_v20 (F := F) x4 x5 (idx_main_v42 i) := by
  rw [val_main_call10_v4_apply, val_main_call10_v1_apply, val_main_call10_v3_apply, val_main_v42_apply]
  exact wrapped (numbers_lt x4 x5 hT _)

theorem place10_at (b : Fin 8) (j : Fin 512) :
    (val_main_call10_v4 (F := F) x4 x5 (ix3 b j 0)).toInt = (rowOf x4 x5 hT b j).val := by
  have e : idx_main_v42 (ix3 b j 0) = ix2 b j := by
    funext a
    match a with
    | ⟨0, _⟩ => rfl
    | ⟨1, _⟩ => rfl
  rw [place10_apply x4 x5 hT, e, picked_at x4 x5 hT, toInt_small (picked_lt x4 x5 hT b j)]

theorem guard10 (j : S8x512.Idx) : val_main_call10_v11 (F := F) x4 x5 j = 1#1 := by
  refine guarded _ _ _ _ 32767#32 _ _ rfl (fun _ => rfl) (fun _ => rfl) (by decide) (fun i => ?_) j
  rw [place10_apply x4 x5 hT]
  exact Nat.le_of_lt_succ (numbers_lt x4 x5 hT _)

/-- The start grid at the listed spans. -/
theorem starts_at (x2 : (⟨S8x2048x16x1, .f32⟩ : BufTy).Contents (Elt F)) (b : Fin 8) (j : Fin 512) :
    val_main_v43 (F := F) x2 x4 x5 (ix3 b j 0)
      = x2 (ix4 b ⟨(picked x4 x5 b j).toNat / 16, by have := picked_lt x4 x5 hT b j; omega⟩
          ⟨(picked x4 x5 b j).toNat % 16, by omega⟩ 0) := by
  rw [val_main_v43_apply, val_main_call10_v13_apply, guard10 x4 x5 hT]
  show val_main_call10_v12 (F := F) x2 x4 x5 (ix3 b j 0) = _
  unfold val_main_call10_v12
  rw [taken_one _ _ _ _ _ (place10_at x4 x5 hT b j), val_main_v41_apply, grid_one41]

theorem place11_apply (i : S8x512x1.Idx) :
    val_main_call11_v4 (F := F) x4 x5 i = val_main_v20 (F := F) x4 x5 (idx_main_v45 i) := by
  rw [val_main_call11_v4_apply, val_main_call11_v1_apply, val_main_call11_v3_apply, val_main_v45_apply]
  exact wrapped (numbers_lt x4 x5 hT _)

theorem place11_at (b : Fin 8) (j : Fin 512) :
    (val_main_call11_v4 (F := F) x4 x5 (ix3 b j 0)).toInt = (rowOf x4 x5 hT b j).val := by
  have e : idx_main_v45 (ix3 b j 0) = ix2 b j := by
    funext a
    match a with
    | ⟨0, _⟩ => rfl
    | ⟨1, _⟩ => rfl
  rw [place11_apply x4 x5 hT, e, picked_at x4 x5 hT, toInt_small (picked_lt x4 x5 hT b j)]

theorem guard11 (j : S8x512.Idx) : val_main_call11_v11 (F := F) x4 x5 j = 1#1 := by
  refine guarded _ _ _ _ 32767#32 _ _ rfl (fun _ => rfl) (fun _ => rfl) (by decide) (fun i => ?_) j
  rw [place11_apply x4 x5 hT]
  exact Nat.le_of_lt_succ (numbers_lt x4 x5 hT _)

/-- The end grid at the listed spans. -/
theorem ends_at (x3 : (⟨S8x2048x16x1, .f32⟩ : BufTy).Contents (Elt F)) (b : Fin 8) (j : Fin 512) :
    val_main_v46 (F := F) x3 x4 x5 (ix3 b j 0)
      = x3 (ix4 b ⟨(picked x4 x5 b j).toNat / 16, by have := picked_lt x4 x5 hT b j; omega⟩
          ⟨(picked x4 x5 b j).toNat % 16, by omega⟩ 0) := by
  rw [val_main_v46_apply, val_main_call11_v13_apply, guard11 x4 x5 hT]
  show val_main_call11_v12 (F := F) x3 x4 x5 (ix3 b j 0) = _
  unfold val_main_call11_v12
  rw [taken_one _ _ _ _ _ (place11_at x4 x5 hT b j), val_main_v44_apply, grid_one44]

end Cert.GoldSpans
-- ==== Proof.RefMasks.lean ====
/-
  The reference's two masks at an index.
-/
module

public import proofs.«01_k».proof.Proof.RefWords
public import Idealize.ShloMosaic.Lib.IdealHost

@[expose] public section

set_option maxRecDepth 16384

noncomputable section

namespace Cert.GoldSpans

open Idealize.ShloMosaic
open Cert.ReferenceIdeal (S8 S8x512 S512x512 S8x512x512)
open Cert.ReferenceIdeal.Read

/-- A test's outcome as a number. -/
theorem number_of_test (c : Bool) :
    FloatOps.uitofp (F := Ideal) .f32 (BitVec.ofBool c) = if c = true then (1 : EReal) else 0 := by
  cases c
  · show ((((0 : Nat) : ℝ)) : EReal) = _
    simp
  · show ((((1 : Nat) : ℝ)) : EReal) = _
    simp

/-- The product of two tests' outcomes is the outcome of their conjunction. -/
theorem product_of_tests (p q : Prop) [Decidable p] [Decidable q] :
    FloatOps.mulf (F := Ideal) (φ := .f32) (if p then (1 : EReal) else 0) (if q then (1 : EReal) else 0)
      = if p ∧ q then (1 : EReal) else 0 := by
  show (if p then (1 : EReal) else 0) * (if q then (1 : EReal) else 0) = _
  by_cases hp : p <;> by_cases hq : q <;> simp [hp, hq]

variable (x5 : (⟨S8, .i32⟩ : BufTy).Contents (Elt Ideal))

theorem weight_at (b : Fin 8) (q : Fin 512) :
    val_main_v24 (F := Ideal) x5 (ix2 b q) = if (BitVec.ofNat 32 q.val).slt (x5 (ix1 b)) = true then (1 : EReal) else 0 := by
  rw [val_main_v24_apply, counted_at]
  exact number_of_test _

theorem square_at (b : Fin 8) (i j : Fin 512) :
    val_main_v29 (F := Ideal) x5 (ix3 b i j)
      = if (BitVec.ofNat 32 i.val).slt (x5 (ix1 b)) = true ∧ (BitVec.ofNat 32 j.val).slt (x5 (ix1 b)) = true
        then (1 : EReal) else 0 := by
  have e1 : idx_main_v25 (idx_main_v27 (ix3 b i j)) = ix2 b i := by
    funext a
    match a with
    | ⟨0, _⟩ => rfl
    | ⟨1, _⟩ => rfl
  have e2 : idx_main_v26 (idx_main_v28 (ix3 b i j)) = ix2 b j := by
    funext a
    match a with
    | ⟨0, _⟩ => rfl
    | ⟨1, _⟩ => rfl
  rw [val_main_v29_apply, val_main_v27_apply, val_main_v25_apply, val_main_v28_apply, val_main_v26_apply, e1, e2, weight_at, weight_at]
  exact product_of_tests _ _

theorem sge_small (i j : Fin 512) :
    IntOp.cmpi .sge (BitVec.ofNat 32 i.val) (BitVec.ofNat 32 j.val) = BitVec.ofBool (decide (j ≤ i)) := by
  show BitVec.ofBool ((BitVec.ofNat 32 j.val).sle (BitVec.ofNat 32 i.val)) = _
  congr 1
  rw [BitVec.sle_eq_decide, toInt_small (by rw [small_pos]; omega), toInt_small (by rw [small_pos]; omega), small_pos, small_pos]
  exact decide_eq_decide.2 (Int.ofNat_le.trans Fin.le_def.symm)

theorem lower_at (b : Fin 8) (i j : Fin 512) :
    val_main_v33 (F := Ideal) (ix3 b i j) = if j ≤ i then (1 : EReal) else 0 := by
  have e : idx_main_v32 (idx_main_v33 (ix3 b i j)) = ix2 i j := by
    funext a
    match a with
    | ⟨0, _⟩ => rfl
    | ⟨1, _⟩ => rfl
  have e1 : val_main_v30 (F := Ideal) (ix2 i j) = (1 : EReal) := Ideal.ofBits_one_f32
  have e0 : val_main_call7_v5 (F := Ideal) (ix2 i j) = (0 : EReal) := Ideal.ofBits_zero_f32
  have e2 : val_main_call7_v2 (F := Ideal) (ix2 i j) = BitVec.ofNat 32 i.val := by
    show BitVec.ofNat 32 i.val + 0#32 = _
    exact BitVec.add_zero _
  have e3 : val_main_call7_v3 (F := Ideal) (ix2 i j) = BitVec.ofNat 32 j.val := rfl
  rw [val_main_v33_apply, val_main_v32_apply, e, val_main_v31_apply, val_main_call7_v4_apply, e1, e0, e2, e3, sge_small]
  by_cases h : j ≤ i
  · rw [if_pos h, decide_eq_true h]; rfl
  · rw [if_neg h, decide_eq_false h]; rfl

theorem triangle_at (b : Fin 8) (i j : Fin 512) :
    val_main_v34 (F := Ideal) x5 (ix3 b i j)
      = if ((BitVec.ofNat 32 i.val).slt (x5 (ix1 b)) = true ∧ (BitVec.ofNat 32 j.val).slt (x5 (ix1 b)) = true) ∧ j ≤ i
        then (1 : EReal) else 0 := by
  rw [val_main_v34_apply, square_at, lower_at]
  exact product_of_tests _ _

end Cert.GoldSpans
-- ==== Proof.Agree.lean ====
/-
  The two programs' results agree, and the kernel's program computes what the reference does.
-/
module

public import proofs.«01_k».proof.Proof.RefValue
public import proofs.«01_k».proof.Proof.RefMasks
public import proofs.«01_k».proof.Proof.Frames

@[expose] public section

set_option maxRecDepth 16384

noncomputable section

namespace Cert.GoldSpans

open Idealize.ShloMosaic Idealize.SL.Sem Idealize.ShloMosaic.StableHlo
open Cert.KernelIdeal (main_arg0 main_arg1 main_arg2 main_arg3 main_arg4 main_arg5 main_arg6 nD τ sig
  main_v5 main_v6 main_v7 main_v8 main_v1_8 main_v1_9 main_v9 main_v10 main_v11 main_v12)
open Cert.ReferenceIdeal (S8 S8x512 S8x512x1 S8x512x2 S8x512x128 S8x2048x16x128 S8x2048x16x1 S8x512x512)
open Cert.ReferenceIdeal.Read

/-! ## Indices by their coordinates -/

theorem by_two {α : Type} {x y : S8x512.Idx → α} (h : ∀ b j, x (ix2 b j) = y (ix2 b j)) : x = y := by
  funext i
  have e : i = ix2 (i 0) (i 1) := by
    funext a
    match a with
    | ⟨0, _⟩ => rfl
    | ⟨1, _⟩ => rfl
  rw [e]
  exact h (i 0) (i 1)

theorem by_column {α : Type} {x y : S8x512x1.Idx → α} (h : ∀ b j, x (ix3 b j 0) = y (ix3 b j 0)) : x = y := by
  funext i
  have e : i = ix3 (i 0) (i 1) 0 := by
    funext a
    match a with
    | ⟨0, _⟩ => rfl
    | ⟨1, _⟩ => rfl
    | ⟨2, _⟩ => exact Fin.ext (Nat.lt_one_iff.1 (i 2).isLt)
  rw [e]
  exact h (i 0) (i 1)

theorem by_rows {α : Type} {x y : S8x512x128.Idx → α} (h : ∀ b j k, x (ix3 b j k) = y (ix3 b j k)) : x = y := by
  funext i
  have e : i = ix3 (i 0) (i 1) (i 2) := by
    funext a
    match a with
    | ⟨0, _⟩ => rfl
    | ⟨1, _⟩ => rfl
    | ⟨2, _⟩ => rfl
  rw [e]
  exact h (i 0) (i 1) (i 2)

theorem by_squares {α : Type} {x y : S8x512x512.Idx → α} (h : ∀ b i j, x (ix3 b i j) = y (ix3 b i j)) : x = y := by
  funext i
  have e : i = ix3 (i 0) (i 1) (i 2) := by
    funext a
    match a with
    | ⟨0, _⟩ => rfl
    | ⟨1, _⟩ => rfl
    | ⟨2, _⟩ => rfl
  rw [e]
  exact h (i 0) (i 1) (i 2)

/-! ## The results, one by one -/

variable {m : (ℓ : Loc nD τ sig) → Buf (Elt Ideal) ℓ} (d : Dev nD)

/-- The kernel's arguments, as the reference takes them. -/
abbrev vecsArg (m : (ℓ : Loc nD τ sig) → Buf (Elt Ideal) ℓ) (d : Dev nD) : (⟨S8x2048x16x128, .f32⟩ : BufTy).Contents (Elt Ideal) :=
  m (d, Proc.devRef .tc main_arg0)
abbrev startsArg (m : (ℓ : Loc nD τ sig) → Buf (Elt Ideal) ℓ) (d : Dev nD) : (⟨S8x2048x16x1, .f32⟩ : BufTy).Contents (Elt Ideal) :=
  m (d, Proc.devRef .tc main_arg2)
abbrev endsArg (m : (ℓ : Loc nD τ sig) → Buf (Elt Ideal) ℓ) (d : Dev nD) : (⟨S8x2048x16x1, .f32⟩ : BufTy).Contents (Elt Ideal) :=
  m (d, Proc.devRef .tc main_arg3)
abbrev goldsArg (m : (ℓ : Loc nD τ sig) → Buf (Elt Ideal) ℓ) (d : Dev nD) : (⟨S8x512x2, .i32⟩ : BufTy).Contents (Elt Ideal) :=
  m (d, Proc.devRef .tc main_arg4)
abbrev lensArg (m : (ℓ : Loc nD τ sig) → Buf (Elt Ideal) ℓ) (d : Dev nD) : (⟨S8, .i32⟩ : BufTy).Contents (Elt Ideal) :=
  m (d, Proc.devRef .tc main_arg5)

theorem tame_args (hT : Tame m) (b : Fin 8) (q : Fin 512) :
    (spanNo (goldsArg m d (ix3 b q 0)) (goldsArg m d (ix3 b q 1))).toNat < 32768 := hT d b q

theorem picked_eq (b : Fin 8) (j : Fin 512) : picked (goldsArg m d) (lensArg m d) b j = listAt m d b j := rfl

theorem agree_vecs (hT : Tame m) :
    val_main_v37 (F := Ideal) (vecsArg m d) (goldsArg m d) (lensArg m d) = V5 m d (Proc.devRef .tc main_v5) :=
  by_rows fun b j k => (vectors_at _ _ (tame_args d hT) (vecsArg m d) b j k).trans (vecs_end d hT b j k).symm

theorem agree_scores (hT : Tame m) :
    val_main_v40 (F := Ideal) (goldsArg m d) (lensArg m d) = V5 m d (Proc.devRef .tc main_v6) :=
  by_column fun b j => (scores_at _ _ (tame_args d hT) b j).trans (score_end d b j).symm

theorem agree_starts (hT : Tame m) (hg : Cert.Pre_KernelIdeal_golds_and_grids m) :
    val_main_v43 (F := Ideal) (startsArg m d) (goldsArg m d) (lensArg m d) = V5 m d (Proc.devRef .tc main_v7) :=
  by_column fun b j => by
    refine (starts_at _ _ (tame_args d hT) (startsArg m d) b j).trans (Eq.trans ?_ (begF_end d hT b j).symm)
    refine (starts_of_grids (hg d).2.1 b _ _).trans (congrArg (FloatOps.sitofp (F := Ideal) .f32) ?_)
    exact (begOf_small (picked_lt _ _ (tame_args d hT) b j)).symm

theorem agree_ends (hT : Tame m) (hg : Cert.Pre_KernelIdeal_golds_and_grids m) :
    val_main_v46 (F := Ideal) (endsArg m d) (goldsArg m d) (lensArg m d) = V5 m d (Proc.devRef .tc main_v8) :=
  by_column fun b j => by
    refine (ends_at _ _ (tame_args d hT) (endsArg m d) b j).trans (Eq.trans ?_ (endF_end d hT b j).symm)
    refine (ends_of_grids (hg d).2.2 b _ _).trans (congrArg (FloatOps.sitofp (F := Ideal) .f32) ?_)
    exact (congrArg₂ (fun x y : BitVec 32 => x + y) (begOf_small (picked_lt _ _ (tame_args d hT) b j)) (low_small _)).symm

theorem agree_square :
    val_main_v29 (F := Ideal) (lensArg m d) = V5 m d (Proc.devRef .tc main_v1_8) :=
  by_squares fun b i j => by
    refine (square_at (lensArg m d) b i j).trans (Eq.trans ?_ (sq_end (F := Ideal) (m := m) d b i j).symm)
    exact congrArg₂ (fun x y : EReal => if (BitVec.ofNat 32 i.val).slt (lenAt m d b) ∧ (BitVec.ofNat 32 j.val).slt (lenAt m d b) then x else y)
      Ideal.ofBits_one_f32.symm Ideal.ofBits_zero_f32.symm

theorem agree_triangle :
    val_main_v34 (F := Ideal) (lensArg m d) = V5 m d (Proc.devRef .tc main_v1_9) :=
  by_squares fun b i j => by
    refine (triangle_at (lensArg m d) b i j).trans (Eq.trans ?_ (tri_end (F := Ideal) (m := m) d b i j).symm)
    exact congrArg₂ (fun x y : EReal => if ((BitVec.ofNat 32 i.val).slt (lenAt m d b) ∧ (BitVec.ofNat 32 j.val).slt (lenAt m d b)) ∧ j ≤ i then x else y)
      Ideal.ofBits_one_f32.symm Ideal.ofBits_zero_f32.symm

theorem agree_first (hT : Tame m) :
    val_main_v21 (F := Ideal) (goldsArg m d) (lensArg m d) = V5 m d (Proc.devRef .tc main_v9) :=
  by_two fun b j => (first_at _ _ (tame_args d hT) b j).trans (beg_end d hT b j).symm

theorem agree_last (hT : Tame m) :
    val_main_v23 (F := Ideal) (goldsArg m d) (lensArg m d) = V5 m d (Proc.devRef .tc main_v10) :=
  by_two fun b j => (last_at _ _ (tame_args d hT) b j).trans (end_end d hT b j).symm

theorem agree_numbers (hT : Tame m) :
    val_main_v20 (F := Ideal) (goldsArg m d) (lensArg m d) = V5 m d (Proc.devRef .tc main_v11) :=
  by_two fun b j => (picked_at _ _ (tame_args d hT) b j).trans (idx_end d hT b j).symm

theorem agree_order (hT : Tame m) :
    val_main_v17 (F := Ideal) (goldsArg m d) (lensArg m d) = V5 m d (Proc.devRef .tc main_v12) :=
  by_two fun b j => (argsort_at _ _ (tame_args d hT) b j).trans (reidx_end d hT b j).symm

/-! ## The claim -/

/-- From equal arguments in range, the two programs' ten results are equal. -/
theorem algebraic : Cert.algebraic_KernelIdeal_ReferenceIdeal_pre_golds_and_grids := by
  intro m g m' g' hp ha
  have hT : Tame m := tame_of_grids hp
  refine ⟨fun c => V5 m c (Proc.devRef .tc main_v5), fun c => V5 m c (Proc.devRef .tc main_v6), fun c => V5 m c (Proc.devRef .tc main_v7),
    fun c => V5 m c (Proc.devRef .tc main_v8), fun c => V5 m c (Proc.devRef .tc main_v1_8), fun c => V5 m c (Proc.devRef .tc main_v1_9),
    fun c => V5 m c (Proc.devRef .tc main_v9), fun c => V5 m c (Proc.devRef .tc main_v10), fun c => V5 m c (Proc.devRef .tc main_v11),
    fun c => V5 m c (Proc.devRef .tc main_v12), ?_, ?_⟩
  · refine (θ_run Cert.KernelIdeal.defs _ _).mono (fun r h c => ?_) (run_main m g (inRange hT))
    exact ⟨h.1 c _ (ref_mem main_v5 rfl), h.1 c _ (ref_mem main_v6 rfl), h.1 c _ (ref_mem main_v7 rfl), h.1 c _ (ref_mem main_v8 rfl),
      h.1 c _ (ref_mem main_v1_8 rfl), h.1 c _ (ref_mem main_v1_9 rfl), h.1 c _ (ref_mem main_v9 rfl), h.1 c _ (ref_mem main_v10 rfl),
      h.1 c _ (ref_mem main_v11 rfl), h.1 c _ (ref_mem main_v12 rfl), (kept_of_final h).1 c⟩
  · refine (θ_run (Cert.ReferenceIdeal.defs (F := Ideal)) _ _).mono (fun r h c => ?_) (Cert.ReferenceIdeal.Value.run (F := Ideal) m' g')
    obtain ⟨h37, h40, h43, h46, h29, h34, h21, h23, h20, h17, hargs⟩ := h c
    obtain ⟨a0, _, a2, a3, a4, a5, _⟩ := ha c
    have e0 : launchContents m' c (Proc.devRef .tc Cert.ReferenceIdeal.main_arg0) = vecsArg m c := a0
    have e2 : launchContents m' c (Proc.devRef .tc Cert.ReferenceIdeal.main_arg2) = startsArg m c := a2
    have e3 : launchContents m' c (Proc.devRef .tc Cert.ReferenceIdeal.main_arg3) = endsArg m c := a3
    have e4 : launchContents m' c (Proc.devRef .tc Cert.ReferenceIdeal.main_arg4) = goldsArg m c := a4
    have e5 : launchContents m' c (Proc.devRef .tc Cert.ReferenceIdeal.main_arg5) = lensArg m c := a5
    have q37 : val_main_v37 (F := Ideal) (launchContents m' c (Proc.devRef .tc Cert.ReferenceIdeal.main_arg0)) (launchContents m' c (Proc.devRef .tc Cert.ReferenceIdeal.main_arg4)) (launchContents m' c (Proc.devRef .tc Cert.ReferenceIdeal.main_arg5))
        = V5 m c (Proc.devRef .tc main_v5) := by
      rw [e0, e4, e5]
      exact agree_vecs c hT
    have q40 : val_main_v40 (F := Ideal) (launchContents m' c (Proc.devRef .tc Cert.ReferenceIdeal.main_arg4)) (launchContents m' c (Proc.devRef .tc Cert.ReferenceIdeal.main_arg5))
        = V5 m c (Proc.devRef .tc main_v6) := by
      rw [e4, e5]
      exact agree_scores c hT
    have q43 : val_main_v43 (F := Ideal) (launchContents m' c (Proc.devRef .tc Cert.ReferenceIdeal.main_arg2)) (launchContents m' c (Proc.devRef .tc Cert.ReferenceIdeal.main_arg4)) (launchContents m' c (Proc.devRef .tc Cert.ReferenceIdeal.main_arg5))
        = V5 m c (Proc.devRef .tc main_v7) := by
      rw [e2, e4, e5]
      exact agree_starts c hT hp
    have q46 : val_main_v46 (F := Ideal) (launchContents m' c (Proc.devRef .tc Cert.ReferenceIdeal.main_arg3)) (launchContents m' c (Proc.devRef .tc Cert.ReferenceIdeal.main_arg4)) (launchContents m' c (Proc.devRef .tc Cert.ReferenceIdeal.main_arg5))
        = V5 m c (Proc.devRef .tc main_v8) := by
      rw [e3, e4, e5]
      exact agree_ends c hT hp
    have q29 : val_main_v29 (F := Ideal) (launchContents m' c (Proc.devRef .tc Cert.ReferenceIdeal.main_arg5))
        = V5 m c (Proc.devRef .tc main_v1_8) := by
      rw [e5]
      exact agree_square c
    have q34 : val_main_v34 (F := Ideal) (launchContents m' c (Proc.devRef .tc Cert.ReferenceIdeal.main_arg5))
        = V5 m c (Proc.devRef .tc main_v1_9) := by
      rw [e5]
      exact agree_triangle c
    have q21 : val_main_v21 (F := Ideal) (launchContents m' c (Proc.devRef .tc Cert.ReferenceIdeal.main_arg4)) (launchContents m' c (Proc.devRef .tc Cert.ReferenceIdeal.main_arg5))
        = V5 m c (Proc.devRef .tc main_v9) := by
      rw [e4, e5]
      exact agree_first c hT
    have q23 : val_main_v23 (F := Ideal) (launchContents m' c (Proc.devRef .tc Cert.ReferenceIdeal.main_arg4)) (launchContents m' c (Proc.devRef .tc Cert.ReferenceIdeal.main_arg5))
        = V5 m c (Proc.devRef .tc main_v10) := by
      rw [e4, e5]
      exact agree_last c hT
    have q20 : val_main_v20 (F := Ideal) (launchContents m' c (Proc.devRef .tc Cert.ReferenceIdeal.main_arg4)) (launchContents m' c (Proc.devRef .tc Cert.ReferenceIdeal.main_arg5))
        = V5 m c (Proc.devRef .tc main_v11) := by
      rw [e4, e5]
      exact agree_numbers c hT
    have q17 : val_main_v17 (F := Ideal) (launchContents m' c (Proc.devRef .tc Cert.ReferenceIdeal.main_arg4)) (launchContents m' c (Proc.devRef .tc Cert.ReferenceIdeal.main_arg5))
        = V5 m c (Proc.devRef .tc main_v12) := by
      rw [e4, e5]
      exact agree_order c hT
    exact ⟨h37.trans ((val_main_v37_eq (launchContents m' c)).trans q37),
      h40.trans ((val_main_v40_eq (launchContents m' c)).trans q40),
      h43.trans ((val_main_v43_eq (launchContents m' c)).trans q43),
      h46.trans ((val_main_v46_eq (launchContents m' c)).trans q46),
      h29.trans ((val_main_v29_eq (launchContents m' c)).trans q29),
      h34.trans ((val_main_v34_eq (launchContents m' c)).trans q34),
      h21.trans ((val_main_v21_eq (launchContents m' c)).trans q21),
      h23.trans ((val_main_v23_eq (launchContents m' c)).trans q23),
      h20.trans ((val_main_v20_eq (launchContents m' c)).trans q20),
      h17.trans ((val_main_v17_eq (launchContents m' c)).trans q17), hargs⟩

end Cert.GoldSpans
-- ==== Proof.lean ====
/-
  The certificate's claim: the frames of the two readings of the kernel and of the reference, that the
  idealized kernel has the printed one's text, and that its ten results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_golds_in_range
public import proofs.«01_k».proof.Proof.Gen.Pre_golds_and_grids
public import proofs.«01_k».proof.Proof.Frames
public import proofs.«01_k».proof.Proof.SameText
public import proofs.«01_k».proof.Proof.Agree
public import Idealize.ShloMosaic.Adequacy
public import Idealize.ShloMosaic.Init

@[expose] public section

noncomputable section

namespace Cert.Proof

open Cert.GoldSpans

theorem claim : Cert.Claim := ⟨Cert.Kernel.Gen.facts, Cert.KernelIdeal.Gen.facts, Cert.ReferenceIdeal.Gen.facts, Cert.Pre_golds_in_range.Gen.facts, Cert.Pre_golds_and_grids.Gen.facts,
  frame_kernel, frame_ideal, frame_ideal_grids, frame_reference, frame_reference_grids, trivial, algebraic⟩

end Cert.Proof

end
